-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_second [hPre_finite_second : Cert.Pre_finite_second.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_second.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_second [hPre_finite_second : Cert.Pre_finite_second.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_second.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_second [hKernel4Ideal : Cert.Kernel4Ideal.Facts] [hPre_finite_second : Cert.Pre_finite_second.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_second m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_second [hReference4Ideal : Cert.Reference4Ideal.Facts] [hPre_finite_second : Cert.Pre_finite_second.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_second m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "mask" .f32 0xF149F2CA#32 ⊥

def algebraic_Kernel4Ideal_Reference4Ideal_pre_finite_second [hKernel4Ideal : Cert.Kernel4Ideal.Facts] [hReference4Ideal : Cert.Reference4Ideal.Facts] [hPre_finite_second : Cert.Pre_finite_second.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_second m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_second : Cert.Pre_finite_second.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_second (hKernel4Ideal := hKernel4Ideal) (hPre_finite_second := hPre_finite_second)
    ∧ quiescent_Reference4Ideal (hReference4Ideal := hReference4Ideal)
    ∧ quiescent_Reference4Ideal_pre_finite_second (hReference4Ideal := hReference4Ideal) (hPre_finite_second := hPre_finite_second)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_second (hKernel4Ideal := hKernel4Ideal) (hReference4Ideal := hReference4Ideal) (hPre_finite_second := hPre_finite_second)
-- ==== Pre_finite.lean ====
abbrev S4x4096x512 : Shape := ⟨3, ![4, 4096, 512]⟩
abbrev S2x8x513 : Shape := ⟨3, ![2, 8, 513]⟩
abbrev S_ : Shape := ⟨0, ![]⟩
abbrev S1x8x513 : Shape := ⟨3, ![1, 8, 513]⟩
abbrev S8x513 : Shape := ⟨2, ![8, 513]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  slices_S2x8x513_S1x8x513_0_0_0 : S2x8x513.Slices ![0, 0, 0] S1x8x513
  shapeCasts_S1x8x513_S8x513 : S1x8x513.ShapeCasts S8x513
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S4x4096x512 .f32) (main_arg1 : FVec F S4x4096x512 .f32) (main_arg2 : FVec F S4x4096x512 .f32) (main_arg3 : FVec F S2x8x513 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S1x8x513 .f32 := (extractStridedSlice S1x8x513 ![0, 0, 0] · slices_S2x8x513_S1x8x513_0_0_0) main_arg3
  let main_v10 : FVec F S8x513 .f32 := shapeCast S8x513 main_v9 shapeCasts_S1x8x513_S8x513
  let main_v11 : FVec F S8x513 .f32 := Host.absf main_v10
  let main_cst_2 : FVec F S_ .f32 := constant S_ .f32 0x7F800000#32
  let main_v12 : FVec F S8x513 .f32 := broadcastInDim S8x513 ![] bcast_S_S8x513 main_cst_2
  let main_v13 : IVec S8x513 1 := cmpf .olt main_v11 main_v12
  let main_c_3 : IVec S_ 1 := constantI S_ 1 1#1
  let main_v14 : IVec S_ 1 := (fun x v => Host.reduce IntOp.andi x v reducesTo_S8x513_S_d0_1 h_S_) main_v13 main_c_3
  let main_v15 : IVec S_ 1 := andi main_v8 main_v14
  main_v15
-- ==== Pre_finite_second.lean ====
abbrev S4x4096x512 : Shape := ⟨3, ![4, 4096, 512]⟩
abbrev S2x8x513 : Shape := ⟨3, ![2, 8, 513]⟩
abbrev S_ : Shape := ⟨0, ![]⟩
abbrev S1x8x513 : Shape := ⟨3, ![1, 8, 513]⟩
abbrev S8x513 : Shape := ⟨2, ![8, 513]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  slices_S2x8x513_S1x8x513_1_0_0 : S2x8x513.Slices ![1, 0, 0] S1x8x513
  shapeCasts_S1x8x513_S8x513 : S1x8x513.ShapeCasts S8x513
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S4x4096x512 .f32) (main_arg1 : FVec F S4x4096x512 .f32) (main_arg2 : FVec F S4x4096x512 .f32) (main_arg3 : FVec F S2x8x513 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S1x8x513 .f32 := (extractStridedSlice S1x8x513 ![1, 0, 0] · slices_S2x8x513_S1x8x513_1_0_0) main_arg3
  let main_v10 : FVec F S8x513 .f32 := shapeCast S8x513 main_v9 shapeCasts_S1x8x513_S8x513
  let main_v11 : FVec F S8x513 .f32 := Host.absf main_v10
  let main_cst_2 : FVec F S_ .f32 := constant S_ .f32 0x7F800000#32
  let main_v12 : FVec F S8x513 .f32 := broadcastInDim S8x513 ![] bcast_S_S8x513 main_cst_2
  let main_v13 : IVec S8x513 1 := cmpf .olt main_v11 main_v12
  let main_c_3 : IVec S_ 1 := constantI S_ 1 1#1
  let main_v14 : IVec S_ 1 := (fun x v => Host.reduce IntOp.andi x v reducesTo_S8x513_S_d0_1 h_S_) main_v13 main_c_3
  let main_v15 : IVec S_ 1 := andi main_v8 main_v14
  main_v15
-- ==== Kernel.lean ====
abbrev S4x4096x512 : Shape := ⟨3, ![4, 4096, 512]⟩
abbrev S2x8x513 : Shape := ⟨3, ![2, 8, 513]⟩
abbrev S_ : Shape := ⟨0, ![]⟩
abbrev S16384x512 : Shape := ⟨2, ![16384, 512]⟩
abbrev S512x16384 : Shape := ⟨2, ![512, 16384]⟩
abbrev S4x32x128x512 : Shape := ⟨4, ![4, 32, 128, 512]⟩
abbrev S4x32x512x128 : Shape := ⟨4, ![4, 32, 512, 128]⟩
abbrev S2x8x1 : Shape := ⟨3, ![2, 8, 1]⟩
abbrev S2x8x256 : Shape := ⟨3, ![2, 8, 256]⟩
abbrev S2x8x384 : Shape := ⟨3, ![2, 8, 384]⟩
abbrev S2x8x1024 : Shape := ⟨3, ![2, 8, 1024]⟩
abbrev S512x1024 : Shape := ⟨2, ![512, 1024]⟩
abbrev S1x4096x512 : Shape := ⟨3, ![1, 4096, 512]⟩
abbrev S1x32x512x128 : Shape := ⟨4, ![1, 32, 512, 128]⟩
abbrev S1x8x1024 : Shape := ⟨3, ![1, 8, 1024]⟩
abbrev S1x1024x512 : Shape := ⟨3, ![1, 1024, 512]⟩
abbrev S8x1152x128 : Shape := ⟨3, ![8, 1152, 128]⟩
abbrev S640x128 : Shape := ⟨2, ![640, 128]⟩
abbrev S1x1x1024 : Shape := ⟨3, ![1, 1, 1024]⟩
abbrev S1x1024 : Shape := ⟨2, ![1, 1024]⟩
abbrev S128x1024 : Shape := ⟨2, ![128, 1024]⟩
abbrev S128x128 : Shape := ⟨2, ![128, 128]⟩
abbrev S1x640x128 : Shape := ⟨3, ![1, 640, 128]⟩
abbrev S512x128 : Shape := ⟨2, ![512, 128]⟩
abbrev S1x512x128 : Shape := ⟨3, ![1, 512, 128]⟩
abbrev S64x128 : Shape := ⟨2, ![64, 128]⟩
abbrev S1x128x128 : Shape := ⟨3, ![1, 128, 128]⟩
abbrev S128 : Shape := ⟨1, ![128]⟩
abbrev S1x128 : Shape := ⟨2, ![1, 128]⟩
abbrev S1x1x64x128 : Shape := ⟨4, ![1, 1, 64, 128]⟩
abbrev S128x512 : Shape := ⟨2, ![128, 512]⟩
abbrev S1x128x512 : Shape := ⟨3, ![1, 128, 512]⟩

abbrev nBuf : Space → Nat
  | .hbm => 29
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S2x8x513, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x512, .f32⟩
  | .hbm, ⟨9, _⟩ => ⟨S_, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .bf16⟩
  | .hbm, ⟨14, _⟩ => ⟨S512x16384, .bf16⟩
  | .hbm, ⟨15, _⟩ => ⟨S4x32x128x512, .f32⟩
  | .hbm, ⟨16, _⟩ => ⟨S4x32x512x128, .f32⟩
  | .hbm, ⟨17, _⟩ => ⟨S4x32x512x128, .bf16⟩
  | .hbm, ⟨18, _⟩ => ⟨S4x4096x512, .bf16⟩
  | .hbm, ⟨19, _⟩ => ⟨S2x8x1, .f32⟩
  | .hbm, ⟨20, _⟩ => ⟨S2x8x256, .f32⟩
  | .hbm, ⟨21, _⟩ => ⟨S2x8x384, .f32⟩
  | .hbm, ⟨22, _⟩ => ⟨S2x8x384, .f32⟩
  | .hbm, ⟨23, _⟩ => ⟨S2x8x1, .f32⟩
  | .hbm, ⟨24, _⟩ => ⟨S2x8x384, .f32⟩
  | .hbm, ⟨25, _⟩ => ⟨S2x8x1024, .f32⟩
  | .hbm, ⟨26, _⟩ => ⟨S2x8x1024, .f32⟩
  | .hbm, ⟨27, _⟩ => ⟨S2x8x1024, .f32⟩
  | .hbm, ⟨28, _⟩ => ⟨S4x4096x512, .bf16⟩
  | .local _ .vmem, ⟨0, _⟩ => ⟨S512x1024, .bf16⟩
  | .local _ .vmem, ⟨1, _⟩ => ⟨S512x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x32x512x128, .bf16⟩
  | .local _ .vmem, ⟨5, _⟩ => ⟨S1x32x512x128, .bf16⟩
  | .local _ .vmem, ⟨6, _⟩ => ⟨S1x8x1024, .f32⟩
  | .local _ .vmem, ⟨7, _⟩ => ⟨S1x1024x512, .bf16⟩
  | .local _ .vmem, ⟨8, _⟩ => ⟨S1x1024x512, .bf16⟩
  | .local _ .vmem, ⟨9, _⟩ => ⟨S8x1152x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c8_i32 : BitVec 32 := 8#32
  let v7 : BitVec 32 := Scalar.muli arg1 c8_i32
  let c0_i32_3 : BitVec 32 := 0#32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  v11
def k0_mult2 (i : grid0.Coords) : BitVec 32 :=
  let c512_i32 : BitVec 32 := 512#32
  let arg1 : BitVec 32 := BitVec.ofNat 32 (i 1).val
  let c8_i32 : BitVec 32 := 8#32
  let v7 : BitVec 32 := Scalar.muli arg1 c8_i32
  let c0_i32_3 : BitVec 32 := 0#32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  v15
def k0_off1 (i : grid0.Coords) (c0_i32_3 : BitVec 32) (c0_i32_7 : BitVec 32) : Fin 3 → Nat :=
  let c0_8 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  let v12 : BitVec 32 := v11
  let v20 : BitVec 32 := Scalar.addi v12 c0_i32_7
  let v21 : Index := Scalar.indexCast v20
  let c0_9 : Index := 0#32
  ![0, v21.toNat, 0]
def k0_off2 (i : grid0.Coords) (c0_i32_3 : BitVec 32) (c0_i32_11 : BitVec 32) : Fin 3 → Nat :=
  let c0_12 : Index := 0#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v25 : BitVec 32 := Scalar.addi v16 c0_i32_11
  let v26 : Index := Scalar.indexCast v25
  let c0_13 : Index := 0#32
  ![0, v26.toNat, 0]
def k0_off3 (i : grid0.Coords) (c0_i32_3 : BitVec 32) (c0_i32_15 : BitVec 32) : Fin 4 → Nat :=
  let c0_16 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v36 : BitVec 32 := Scalar.addi v10 c0_i32_15
  let v37 : Index := Scalar.indexCast v36
  let c0_17 : Index := 0#32
  let c0_18 : Index := 0#32
  ![0, v37.toNat, 0, 0]
def k0_off4 (i : grid0.Coords) (c0_i32_3 : BitVec 32) (c0_i32_72 : BitVec 32) : Fin 3 → Nat :=
  let c1 : Index := 1#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v170 : BitVec 32 := Scalar.addi v16 c0_i32_72
  let v171 : Index := Scalar.indexCast v170
  let c0_73 : Index := 0#32
  ![1, v171.toNat, 0]
def k0_off5 (i : grid0.Coords) (c0_i32_3 : BitVec 32) (c0_i32_75 : BitVec 32) : Fin 4 → Nat :=
  let c0_76 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v181 : BitVec 32 := Scalar.addi v10 c0_i32_75
  let v182 : Index := Scalar.indexCast v181
  let c64_77 : Index := 64#32
  let c0_78 : Index := 0#32
  ![0, v182.toNat, 64, 0]
def k0_off6 (i : grid0.Coords) (c0_i32_3 : BitVec 32) (c0_i32_133 : BitVec 32) : Fin 3 → Nat :=
  let c0_134 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  let v12 : BitVec 32 := v11
  let v310 : BitVec 32 := Scalar.addi v12 c0_i32_133
  let v311 : Index := Scalar.indexCast v310
  let c128_135 : Index := 128#32
  ![0, v311.toNat, 128]
def k0_off7 (i : grid0.Coords) (c0_i32_3 : BitVec 32) (c0_i32_137 : BitVec 32) : Fin 3 → Nat :=
  let c2 : Index := 2#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v315 : BitVec 32 := Scalar.addi v16 c0_i32_137
  let v316 : Index := Scalar.indexCast v315
  let c0_138 : Index := 0#32
  ![2, v316.toNat, 0]
def k0_off8 (i : grid0.Coords) (c0_i32_3 : BitVec 32) (c0_i32_140 : BitVec 32) : Fin 4 → Nat :=
  let c0_141 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v326 : BitVec 32 := Scalar.addi v10 c0_i32_140
  let v327 : Index := Scalar.indexCast v326
  let c128_142 : Index := 128#32
  let c0_143 : Index := 0#32
  ![0, v327.toNat, 128, 0]
def k0_off9 (i : grid0.Coords) (c0_i32_3 : BitVec 32) (c0_i32_202 : BitVec 32) : Fin 3 → Nat :=
  let c3 : Index := 3#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v460 : BitVec 32 := Scalar.addi v16 c0_i32_202
  let v461 : Index := Scalar.indexCast v460
  let c0_203 : Index := 0#32
  ![3, v461.toNat, 0]
def k0_off10 (i : grid0.Coords) (c0_i32_3 : BitVec 32) (c0_i32_205 : BitVec 32) : Fin 4 → Nat :=
  let c0_206 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v471 : BitVec 32 := Scalar.addi v10 c0_i32_205
  let v472 : Index := Scalar.indexCast v471
  let c192_207 : Index := 192#32
  let c0_208 : Index := 0#32
  ![0, v472.toNat, 192, 0]
def k0_off11 (i : grid0.Coords) (c0_i32_3 : BitVec 32) (c0_i32_263 : BitVec 32) : Fin 3 → Nat :=
  let c0_264 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  let v12 : BitVec 32 := v11
  let v600 : BitVec 32 := Scalar.addi v12 c0_i32_263
  let v601 : Index := Scalar.indexCast v600
  let c256_265 : Index := 256#32
  ![0, v601.toNat, 256]
def k0_off12 (i : grid0.Coords) (c0_i32_3 : BitVec 32) (c0_i32_267 : BitVec 32) : Fin 3 → Nat :=
  let c4 : Index := 4#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v605 : BitVec 32 := Scalar.addi v16 c0_i32_267
  let v606 : Index := Scalar.indexCast v605
  let c0_268 : Index := 0#32
  ![4, v606.toNat, 0]
def k0_off13 (i : grid0.Coords) (c0_i32_3 : BitVec 32) (c0_i32_270 : BitVec 32) : Fin 4 → Nat :=
  let c0_271 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v616 : BitVec 32 := Scalar.addi v10 c0_i32_270
  let v617 : Index := Scalar.indexCast v616
  let c256_272 : Index := 256#32
  let c0_273 : Index := 0#32
  ![0, v617.toNat, 256, 0]
def k0_off14 (i : grid0.Coords) (c0_i32_3 : BitVec 32) (c0_i32_332 : BitVec 32) : Fin 3 → Nat :=
  let c5 : Index := 5#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v750 : BitVec 32 := Scalar.addi v16 c0_i32_332
  let v751 : Index := Scalar.indexCast v750
  let c0_333 : Index := 0#32
  ![5, v751.toNat, 0]
def k0_off15 (i : grid0.Coords) (c0_i32_3 : BitVec 32) (c0_i32_335 : BitVec 32) : Fin 4 → Nat :=
  let c0_336 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v761 : BitVec 32 := Scalar.addi v10 c0_i32_335
  let v762 : Index := Scalar.indexCast v761
  let c320_337 : Index := 320#32
  let c0_338 : Index := 0#32
  ![0, v762.toNat, 320, 0]
def k0_off16 (i : grid0.Coords) (c0_i32_3 : BitVec 32) (c0_i32_393 : BitVec 32) : Fin 3 → Nat :=
  let c0_394 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  let v12 : BitVec 32 := v11
  let v890 : BitVec 32 := Scalar.addi v12 c0_i32_393
  let v891 : Index := Scalar.indexCast v890
  let c384_395 : Index := 384#32
  ![0, v891.toNat, 384]
def k0_off17 (i : grid0.Coords) (c0_i32_3 : BitVec 32) (c0_i32_397 : BitVec 32) : Fin 3 → Nat :=
  let c6 : Index := 6#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v895 : BitVec 32 := Scalar.addi v16 c0_i32_397
  let v896 : Index := Scalar.indexCast v895
  let c0_398 : Index := 0#32
  ![6, v896.toNat, 0]
def k0_off18 (i : grid0.Coords) (c0_i32_3 : BitVec 32) (c0_i32_400 : BitVec 32) : Fin 4 → Nat :=
  let c0_401 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v906 : BitVec 32 := Scalar.addi v10 c0_i32_400
  let v907 : Index := Scalar.indexCast v906
  let c384_402 : Index := 384#32
  let c0_403 : Index := 0#32
  ![0, v907.toNat, 384, 0]
def k0_off19 (i : grid0.Coords) (c0_i32_3 : BitVec 32) (c0_i32_462 : BitVec 32) : Fin 3 → Nat :=
  let c7 : Index := 7#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v1040 : BitVec 32 := Scalar.addi v16 c0_i32_462
  let v1041 : Index := Scalar.indexCast v1040
  let c0_463 : Index := 0#32
  ![7, v1041.toNat, 0]
def k0_off20 (i : grid0.Coords) (c0_i32_3 : BitVec 32) (c0_i32_465 : BitVec 32) : Fin 4 → Nat :=
  let c0_466 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v1051 : BitVec 32 := Scalar.addi v10 c0_i32_465
  let v1052 : Index := Scalar.indexCast v1051
  let c448_467 : Index := 448#32
  let c0_468 : Index := 0#32
  ![0, v1052.toNat, 448, 0]
def k0_mult3 (i : grid0.Coords) : BitVec 32 :=
  let arg1 : BitVec 32 := BitVec.ofNat 32 (i 1).val
  let c8_i32_525 : BitVec 32 := 8#32
  let v1183 : BitVec 32 := Scalar.muli arg1 c8_i32_525
  let c1_i32_526 : BitVec 32 := 1#32
  let v1184 : BitVec 32 := Scalar.addi v1183 c1_i32_526
  let c4_i32_527 : BitVec 32 := 4#32
  let v1185 : BitVec 32 := Scalar.subi v1184 c4_i32_527
  let c0_i32_528 : BitVec 32 := 0#32
  let v1186 : BitVec 32 := Scalar.maxsi v1185 c0_i32_528
  let c128_i32_529 : BitVec 32 := 128#32
  let v1187 : BitVec 32 := Scalar.muli v1186 c128_i32_529
  v1187
def k0_mult4 (i : grid0.Coords) : BitVec 32 :=
  let c512_i32_531 : BitVec 32 := 512#32
  let arg1 : BitVec 32 := BitVec.ofNat 32 (i 1).val
  let c8_i32_525 : BitVec 32 := 8#32
  let v1183 : BitVec 32 := Scalar.muli arg1 c8_i32_525
  let c1_i32_526 : BitVec 32 := 1#32
  let v1184 : BitVec 32 := Scalar.addi v1183 c1_i32_526
  let c4_i32_527 : BitVec 32 := 4#32
  let v1185 : BitVec 32 := Scalar.subi v1184 c4_i32_527
  let c0_i32_528 : BitVec 32 := 0#32
  let v1186 : BitVec 32 := Scalar.maxsi v1185 c0_i32_528
  let v1189 : BitVec 32 := Scalar.subi v1184 v1186
  let c128_i32_530 : BitVec 32 := 128#32
  let v1190 : BitVec 32 := Scalar.muli v1189 c128_i32_530
  let v1191 : BitVec 32 := Scalar.subi c512_i32_531 v1190
  v1191
def k0_mult5 (i : grid0.Coords) : BitVec 32 :=
  let arg1 : BitVec 32 := BitVec.ofNat 32 (i 1).val
  let c8_i32_1071 : BitVec 32 := 8#32
  let v2359 : BitVec 32 := Scalar.muli arg1 c8_i32_1071
  let c2_i32_1072 : BitVec 32 := 2#32
  let v2360 : BitVec 32 := Scalar.addi v2359 c2_i32_1072
  let c4_i32_1073 : BitVec 32 := 4#32
  let v2361 : BitVec 32 := Scalar.subi v2360 c4_i32_1073
  let c0_i32_1074 : BitVec 32 := 0#32
  let v2362 : BitVec 32 := Scalar.maxsi v2361 c0_i32_1074
  let c128_i32_1075 : BitVec 32 := 128#32
  let v2363 : BitVec 32 := Scalar.muli v2362 c128_i32_1075
  v2363
def k0_mult6 (i : grid0.Coords) : BitVec 32 :=
  let c512_i32_1077 : BitVec 32 := 512#32
  let arg1 : BitVec 32 := BitVec.ofNat 32 (i 1).val
  let c8_i32_1071 : BitVec 32 := 8#32
  let v2359 : BitVec 32 := Scalar.muli arg1 c8_i32_1071
  let c2_i32_1072 : BitVec 32 := 2#32
  let v2360 : BitVec 32 := Scalar.addi v2359 c2_i32_1072
  let c4_i32_1073 : BitVec 32 := 4#32
  let v2361 : BitVec 32 := Scalar.subi v2360 c4_i32_1073
  let c0_i32_1074 : BitVec 32 := 0#32
  let v2362 : BitVec 32 := Scalar.maxsi v2361 c0_i32_1074
  let v2365 : BitVec 32 := Scalar.subi v2360 v2362
  let c128_i32_1076 : BitVec 32 := 128#32
  let v2366 : BitVec 32 := Scalar.muli v2365 c128_i32_1076
  let v2367 : BitVec 32 := Scalar.subi c512_i32_1077 v2366
  v2367
def k0_mult7 (i : grid0.Coords) : BitVec 32 :=
  let arg1 : BitVec 32 := BitVec.ofNat 32 (i 1).val
  let c8_i32_1617 : BitVec 32 := 8#32
  let v3535 : BitVec 32 := Scalar.muli arg1 c8_i32_1617
  let c3_i32_1618 : BitVec 32 := 3#32
  let v3536 : BitVec 32 := Scalar.addi v3535 c3_i32_1618
  let c4_i32_1619 : BitVec 32 := 4#32
  let v3537 : BitVec 32 := Scalar.subi v3536 c4_i32_1619
  let c0_i32_1620 : BitVec 32 := 0#32
  let v3538 : BitVec 32 := Scalar.maxsi v3537 c0_i32_1620
  let c128_i32_1621 : BitVec 32 := 128#32
  let v3539 : BitVec 32 := Scalar.muli v3538 c128_i32_1621
  v3539
def k0_mult8 (i : grid0.Coords) : BitVec 32 :=
  let c512_i32_1623 : BitVec 32 := 512#32
  let arg1 : BitVec 32 := BitVec.ofNat 32 (i 1).val
  let c8_i32_1617 : BitVec 32 := 8#32
  let v3535 : BitVec 32 := Scalar.muli arg1 c8_i32_1617
  let c3_i32_1618 : BitVec 32 := 3#32
  let v3536 : BitVec 32 := Scalar.addi v3535 c3_i32_1618
  let c4_i32_1619 : BitVec 32 := 4#32
  let v3537 : BitVec 32 := Scalar.subi v3536 c4_i32_1619
  let c0_i32_1620 : BitVec 32 := 0#32
  let v3538 : BitVec 32 := Scalar.maxsi v3537 c0_i32_1620
  let v3541 : BitVec 32 := Scalar.subi v3536 v3538
  let c128_i32_1622 : BitVec 32 := 128#32
  let v3542 : BitVec 32 := Scalar.muli v3541 c128_i32_1622
  let v3543 : BitVec 32 := Scalar.subi c512_i32_1623 v3542
  v3543
def k0_mult9 (i : grid0.Coords) : BitVec 32 :=
  let arg1 : BitVec 32 := BitVec.ofNat 32 (i 1).val
  let c8_i32_2163 : BitVec 32 := 8#32
  let v4711 : BitVec 32 := Scalar.muli arg1 c8_i32_2163
  let c4_i32_2164 : BitVec 32 := 4#32
  let v4712 : BitVec 32 := Scalar.addi v4711 c4_i32_2164
  let c4_i32_2165 : BitVec 32 := 4#32
  let v4713 : BitVec 32 := Scalar.subi v4712 c4_i32_2165
  let c0_i32_2166 : BitVec 32 := 0#32
  let v4714 : BitVec 32 := Scalar.maxsi v4713 c0_i32_2166
  let c128_i32_2167 : BitVec 32 := 128#32
  let v4715 : BitVec 32 := Scalar.muli v4714 c128_i32_2167
  v4715
def k0_mult10 (i : grid0.Coords) : BitVec 32 :=
  let c512_i32_2169 : BitVec 32 := 512#32
  let arg1 : BitVec 32 := BitVec.ofNat 32 (i 1).val
  let c8_i32_2163 : BitVec 32 := 8#32
  let v4711 : BitVec 32 := Scalar.muli arg1 c8_i32_2163
  let c4_i32_2164 : BitVec 32 := 4#32
  let v4712 : BitVec 32 := Scalar.addi v4711 c4_i32_2164
  let c4_i32_2165 : BitVec 32 := 4#32
  let v4713 : BitVec 32 := Scalar.subi v4712 c4_i32_2165
  let c0_i32_2166 : BitVec 32 := 0#32
  let v4714 : BitVec 32 := Scalar.maxsi v4713 c0_i32_2166
  let v4717 : BitVec 32 := Scalar.subi v4712 v4714
  let c128_i32_2168 : BitVec 32 := 128#32
  let v4718 : BitVec 32 := Scalar.muli v4717 c128_i32_2168
  let v4719 : BitVec 32 := Scalar.subi c512_i32_2169 v4718
  v4719
def k0_mult11 (i : grid0.Coords) : BitVec 32 :=
  let arg1 : BitVec 32 := BitVec.ofNat 32 (i 1).val
  let c8_i32_2708 : BitVec 32 := 8#32
  let v5887 : BitVec 32 := Scalar.muli arg1 c8_i32_2708
  let c5_i32 : BitVec 32 := 5#32
  let v5888 : BitVec 32 := Scalar.addi v5887 c5_i32
  let c4_i32_2709 : BitVec 32 := 4#32
  let v5889 : BitVec 32 := Scalar.subi v5888 c4_i32_2709
  let c0_i32_2710 : BitVec 32 := 0#32
  let v5890 : BitVec 32 := Scalar.maxsi v5889 c0_i32_2710
  let c128_i32_2711 : BitVec 32 := 128#32
  let v5891 : BitVec 32 := Scalar.muli v5890 c128_i32_2711
  v5891
def k0_mult12 (i : grid0.Coords) : BitVec 32 :=
  let c512_i32_2713 : BitVec 32 := 512#32
  let arg1 : BitVec 32 := BitVec.ofNat 32 (i 1).val
  let c8_i32_2708 : BitVec 32 := 8#32
  let v5887 : BitVec 32 := Scalar.muli arg1 c8_i32_2708
  let c5_i32 : BitVec 32 := 5#32
  let v5888 : BitVec 32 := Scalar.addi v5887 c5_i32
  let c4_i32_2709 : BitVec 32 := 4#32
  let v5889 : BitVec 32 := Scalar.subi v5888 c4_i32_2709
  let c0_i32_2710 : BitVec 32 := 0#32
  let v5890 : BitVec 32 := Scalar.maxsi v5889 c0_i32_2710
  let v5893 : BitVec 32 := Scalar.subi v5888 v5890
  let c128_i32_2712 : BitVec 32 := 128#32
  let v5894 : BitVec 32 := Scalar.muli v5893 c128_i32_2712
  let v5895 : BitVec 32 := Scalar.subi c512_i32_2713 v5894
  v5895
def k0_mult13 (i : grid0.Coords) : BitVec 32 :=
  let arg1 : BitVec 32 := BitVec.ofNat 32 (i 1).val
  let c8_i32_3252 : BitVec 32 := 8#32
  let v7063 : BitVec 32 := Scalar.muli arg1 c8_i32_3252
  let c6_i32 : BitVec 32 := 6#32
  let v7064 : BitVec 32 := Scalar.addi v7063 c6_i32
  let c4_i32_3253 : BitVec 32 := 4#32
  let v7065 : BitVec 32 := Scalar.subi v7064 c4_i32_3253
  let c0_i32_3254 : BitVec 32 := 0#32
  let v7066 : BitVec 32 := Scalar.maxsi v7065 c0_i32_3254
  let c128_i32_3255 : BitVec 32 := 128#32
  let v7067 : BitVec 32 := Scalar.muli v7066 c128_i32_3255
  v7067
def k0_mult14 (i : grid0.Coords) : BitVec 32 :=
  let c512_i32_3257 : BitVec 32 := 512#32
  let arg1 : BitVec 32 := BitVec.ofNat 32 (i 1).val
  let c8_i32_3252 : BitVec 32 := 8#32
  let v7063 : BitVec 32 := Scalar.muli arg1 c8_i32_3252
  let c6_i32 : BitVec 32 := 6#32
  let v7064 : BitVec 32 := Scalar.addi v7063 c6_i32
  let c4_i32_3253 : BitVec 32 := 4#32
  let v7065 : BitVec 32 := Scalar.subi v7064 c4_i32_3253
  let c0_i32_3254 : BitVec 32 := 0#32
  let v7066 : BitVec 32 := Scalar.maxsi v7065 c0_i32_3254
  let v7069 : BitVec 32 := Scalar.subi v7064 v7066
  let c128_i32_3256 : BitVec 32 := 128#32
  let v7070 : BitVec 32 := Scalar.muli v7069 c128_i32_3256
  let v7071 : BitVec 32 := Scalar.subi c512_i32_3257 v7070
  v7071
def k0_mult15 (i : grid0.Coords) : BitVec 32 :=
  let arg1 : BitVec 32 := BitVec.ofNat 32 (i 1).val
  let c8_i32_3796 : BitVec 32 := 8#32
  let v8239 : BitVec 32 := Scalar.muli arg1 c8_i32_3796
  let c7_i32 : BitVec 32 := 7#32
  let v8240 : BitVec 32 := Scalar.addi v8239 c7_i32
  let c4_i32_3797 : BitVec 32 := 4#32
  let v8241 : BitVec 32 := Scalar.subi v8240 c4_i32_3797
  let c0_i32_3798 : BitVec 32 := 0#32
  let v8242 : BitVec 32 := Scalar.maxsi v8241 c0_i32_3798
  let c128_i32_3799 : BitVec 32 := 128#32
  let v8243 : BitVec 32 := Scalar.muli v8242 c128_i32_3799
  v8243
def k0_mult16 (i : grid0.Coords) : BitVec 32 :=
  let c512_i32_3801 : BitVec 32 := 512#32
  let arg1 : BitVec 32 := BitVec.ofNat 32 (i 1).val
  let c8_i32_3796 : BitVec 32 := 8#32
  let v8239 : BitVec 32 := Scalar.muli arg1 c8_i32_3796
  let c7_i32 : BitVec 32 := 7#32
  let v8240 : BitVec 32 := Scalar.addi v8239 c7_i32
  let c4_i32_3797 : BitVec 32 := 4#32
  let v8241 : BitVec 32 := Scalar.subi v8240 c4_i32_3797
  let c0_i32_3798 : BitVec 32 := 0#32
  let v8242 : BitVec 32 := Scalar.maxsi v8241 c0_i32_3798
  let v8245 : BitVec 32 := Scalar.subi v8240 v8242
  let c128_i32_3800 : BitVec 32 := 128#32
  let v8246 : BitVec 32 := Scalar.muli v8245 c128_i32_3800
  let v8247 : BitVec 32 := Scalar.subi c512_i32_3801 v8246
  v8247
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x512 : Shape := ⟨3, ![4, 4096, 512]⟩
abbrev S2x8x513 : Shape := ⟨3, ![2, 8, 513]⟩
abbrev S4x64x64x8x64 : Shape := ⟨5, ![4, 64, 64, 8, 64]⟩
abbrev S_ : Shape := ⟨0, ![]⟩
abbrev S4x72x64x8x64 : Shape := ⟨5, ![4, 72, 64, 8, 64]⟩
abbrev S4x64x576x8x64 : Shape := ⟨5, ![4, 64, 576, 8, 64]⟩
abbrev S4x64x8x64x576 : Shape := ⟨5, ![4, 64, 8, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S1x8x513 : Shape := ⟨3, ![1, 8, 513]⟩
abbrev S8x513 : Shape := ⟨2, ![8, 513]⟩
abbrev S64x576x1 : Shape := ⟨3, ![64, 576, 1]⟩
abbrev S8x64x576 : Shape := ⟨3, ![8, 64, 576]⟩
abbrev S1x1x8x64x576 : Shape := ⟨5, ![1, 1, 8, 64, 576]⟩
abbrev S1x64x1x1x576 : Shape := ⟨5, ![1, 64, 1, 1, 576]⟩
abbrev S4x64x8x64 : Shape := ⟨4, ![4, 64, 8, 64]⟩
abbrev S4x64x8x64x1 : Shape := ⟨5, ![4, 64, 8, 64, 1]⟩
abbrev S4x64x8x64x64 : Shape := ⟨5, ![4, 64, 8, 64, 64]⟩

abbrev nBuf : Space → Nat
  | .hbm => 125
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S2x8x513, .f32⟩
  | .hbm, ⟨4, _⟩ => ⟨S4x64x64x8x64, .f32⟩
  | .hbm, ⟨5, _⟩ => ⟨S4x64x64x8x64, .f32⟩
  | .hbm, ⟨6, _⟩ => ⟨S_, .i32⟩
  | .hbm, ⟨7, _⟩ => ⟨S_, .f32⟩
  | .hbm, ⟨8, _⟩ => ⟨S4x72x64x8x64, .f32⟩
  | .hbm, ⟨9, _⟩ => ⟨S4x64x64x8x64, .f32⟩
  | .hbm, ⟨10, _⟩ => ⟨S_, .i32⟩
  | .hbm, ⟨11, _⟩ => ⟨S_, .f32⟩
  | .hbm, ⟨12, _⟩ => ⟨S4x72x64x8x64, .f32⟩
  | .hbm, ⟨13, _⟩ => ⟨S4x64x64x8x64, .f32⟩
  | .hbm, ⟨14, _⟩ => ⟨S4x64x64x8x64, .f32⟩
  | .hbm, ⟨15, _⟩ => ⟨S4x64x64x8x64, .f32⟩
  | .hbm, ⟨16, _⟩ => ⟨S4x64x64x8x64, .f32⟩
  | .hbm, ⟨17, _⟩ => ⟨S4x64x64x8x64, .f32⟩
  | .hbm, ⟨18, _⟩ => ⟨S4x64x64x8x64, .f32⟩
  | .hbm, ⟨19, _⟩ => ⟨S4x64x64x8x64, .f32⟩
  | .hbm, ⟨20, _⟩ => ⟨S4x64x64x8x64, .f32⟩
  | .hbm, ⟨21, _⟩ => ⟨S4x64x64x8x64, .f32⟩
  | .hbm, ⟨22, _⟩ => ⟨S4x64x576x8x64, .f32⟩
  | .hbm, ⟨23, _⟩ => ⟨S4x64x64x8x64, .f32⟩
  | .hbm, ⟨24, _⟩ => ⟨S4x64x64x8x64, .f32⟩
  | .hbm, ⟨25, _⟩ => ⟨S4x64x64x8x64, .f32⟩
  | .hbm, ⟨26, _⟩ => ⟨S4x64x64x8x64, .f32⟩
  | .hbm, ⟨27, _⟩ => ⟨S4x64x64x8x64, .f32⟩
  | .hbm, ⟨28, _⟩ => ⟨S4x64x64x8x64, .f32⟩
  | .hbm, ⟨29, _⟩ => ⟨S4x64x64x8x64, .f32⟩
  | .hbm, ⟨30, _⟩ => ⟨S4x64x64x8x64, .f32⟩
  | .hbm, ⟨31, _⟩ => ⟨S4x64x64x8x64, .f32⟩
  | .hbm, ⟨32, _⟩ => ⟨S4x64x576x8x64, .f32⟩
  | .hbm, ⟨33, _⟩ => ⟨S4x64x8x64x576, .f32⟩
  | .hbm, ⟨34, _⟩ => ⟨S_, .f32⟩
  | .hbm, ⟨35, _⟩ => ⟨S4x64x8x64x576, .f32⟩
  | .hbm, ⟨36, _⟩ => ⟨S4x64x8x64x576, .f32⟩
  | .hbm, ⟨37, _⟩ => ⟨S64, .i32⟩
  | .hbm, ⟨38, _⟩ => ⟨S64x1, .i32⟩
  | .hbm, ⟨39, _⟩ => ⟨S576, .i32⟩
  | .hbm, ⟨40, _⟩ => ⟨S1x576, .i32⟩
  | .hbm, ⟨41, _⟩ => ⟨S64x576, .i32⟩
  | .hbm, ⟨42, _⟩ => ⟨S64x576, .i32⟩
  | .hbm, ⟨43, _⟩ => ⟨S64x576, .i32⟩
  | .hbm, ⟨44, _⟩ => ⟨S_, .i32⟩
  | .hbm, ⟨45, _⟩ => ⟨S64x576, .i32⟩
  | .hbm, ⟨46, _⟩ => ⟨S64x576, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64x576, .i32⟩
  | .hbm, ⟨51, _⟩ => ⟨S64x576, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S1x8x513, .f32⟩
  | .hbm, ⟨59, _⟩ => ⟨S8x513, .f32⟩
  | .hbm, ⟨60, _⟩ => ⟨S_, .i32⟩
  | .hbm, ⟨61, _⟩ => ⟨S64x576, .i32⟩
  | .hbm, ⟨62, _⟩ => ⟨S64x576, .i1⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S64x576, .i32⟩
  | .hbm, ⟨67, _⟩ => ⟨S64x576x1, .i32⟩
  | .hbm, ⟨68, _⟩ => ⟨S8x64x576, .f32⟩
  | .hbm, ⟨69, _⟩ => ⟨S64, .i32⟩
  | .hbm, ⟨70, _⟩ => ⟨S64x1, .i32⟩
  | .hbm, ⟨71, _⟩ => ⟨S_, .i32⟩
  | .hbm, ⟨72, _⟩ => ⟨S64x1, .i32⟩
  | .hbm, ⟨73, _⟩ => ⟨S64x1, .i32⟩
  | .hbm, ⟨74, _⟩ => ⟨S_, .i32⟩
  | .hbm, ⟨75, _⟩ => ⟨S_, .i32⟩
  | .hbm, ⟨76, _⟩ => ⟨S1x576, .i32⟩
  | .hbm, ⟨77, _⟩ => ⟨S1x576, .i32⟩
  | .hbm, ⟨78, _⟩ => ⟨S1x576, .i32⟩
  | .hbm, ⟨79, _⟩ => ⟨S_, .i32⟩
  | .hbm, ⟨80, _⟩ => ⟨S1x576, .i32⟩
  | .hbm, ⟨81, _⟩ => ⟨S1x576, .i1⟩
  | .hbm, ⟨82, _⟩ => ⟨S1x576, .i32⟩
  | .hbm, ⟨83, _⟩ => ⟨S1x576, .i32⟩
  | .hbm, ⟨84, _⟩ => ⟨S_, .i32⟩
  | .hbm, ⟨85, _⟩ => ⟨S1x576, .i32⟩
  | .hbm, ⟨86, _⟩ => ⟨S1x576, .i1⟩
  | .hbm, ⟨87, _⟩ => ⟨S1x576, .i1⟩
  | .hbm, ⟨88, _⟩ => ⟨S_, .i32⟩
  | .hbm, ⟨89, _⟩ => ⟨S1x576, .i32⟩
  | .hbm, ⟨90, _⟩ => ⟨S1x576, .i32⟩
  | .hbm, ⟨91, _⟩ => ⟨S1x576, .i32⟩
  | .hbm, ⟨92, _⟩ => ⟨S64x576, .i32⟩
  | .hbm, ⟨93, _⟩ => ⟨S64x576, .i32⟩
  | .hbm, ⟨94, _⟩ => ⟨S64x576, .i32⟩
  | .hbm, ⟨95, _⟩ => ⟨S_, .i32⟩
  | .hbm, ⟨96, _⟩ => ⟨S64x576, .i32⟩
  | .hbm, ⟨97, _⟩ => ⟨S64x576, .i1⟩
  | .hbm, ⟨98, _⟩ => ⟨S1x1x8x64x576, .f32⟩
  | .hbm, ⟨99, _⟩ => ⟨S4x64x8x64x576, .f32⟩
  | .hbm, ⟨100, _⟩ => ⟨S4x64x8x64x576, .f32⟩
  | .hbm, ⟨101, _⟩ => ⟨S1x64x1x1x576, .i1⟩
  | .hbm, ⟨102, _⟩ => ⟨S_, .f32⟩
  | .hbm, ⟨103, _⟩ => ⟨S_, .f32⟩
  | .hbm, ⟨104, _⟩ => ⟨S4x64x8x64x576, .i1⟩
  | .hbm, ⟨105, _⟩ => ⟨S4x64x8x64x576, .f32⟩
  | .hbm, ⟨106, _⟩ => ⟨S4x64x8x64x576, .f32⟩
  | .hbm, ⟨107, _⟩ => ⟨S_, .f32⟩
  | .hbm, ⟨108, _⟩ => ⟨S4x64x8x64, .f32⟩
  | .hbm, ⟨109, _⟩ => ⟨S_, .f32⟩
  | .hbm, ⟨110, _⟩ => ⟨S4x64x8x64, .f32⟩
  | .hbm, ⟨111, _⟩ => ⟨S4x64x8x64, .f32⟩
  | .hbm, ⟨112, _⟩ => ⟨S4x64x8x64x1, .f32⟩
  | .hbm, ⟨113, _⟩ => ⟨S4x64x8x64x576, .f32⟩
  | .hbm, ⟨114, _⟩ => ⟨S4x64x8x64x576, .f32⟩
  | .hbm, ⟨115, _⟩ => ⟨S4x64x8x64x576, .f32⟩
  | .hbm, ⟨116, _⟩ => ⟨S_, .f32⟩
  | .hbm, ⟨117, _⟩ => ⟨S4x64x8x64, .f32⟩
  | .hbm, ⟨118, _⟩ => ⟨S4x64x8x64x1, .f32⟩
  | .hbm, ⟨119, _⟩ => ⟨S4x64x8x64x576, .f32⟩
  | .hbm, ⟨120, _⟩ => ⟨S4x64x8x64x576, .f32⟩
  | .hbm, ⟨121, _⟩ => ⟨S4x64x8x64x64, .f32⟩
  | .hbm, ⟨122, _⟩ => ⟨S4x64x64x8x64, .f32⟩
  | .hbm, ⟨123, _⟩ => ⟨S4x4096x512, .f32⟩
  | .hbm, ⟨124, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_1 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_c : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_0 : Ref sig .tc := ⟨.hbm, 88, rfl⟩
abbrev main_call3_v12 : Ref sig .tc := ⟨.hbm, 89, rfl⟩
abbrev main_call3_v13 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_9 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_10 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v63 : Ref sig .tc := ⟨.hbm, 106, rfl⟩
abbrev main_cst_11 : Ref sig .tc := ⟨.hbm, 107, rfl⟩
abbrev main_v64 : Ref sig .tc := ⟨.hbm, 108, rfl⟩
abbrev main_cst_12 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_13 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S512x1024 : Shape := ⟨2, ![512, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1024 : Shape := ⟨1, ![1024]⟩
abbrev S4x4096x2048 : Shape := ⟨3, ![4, 4096, 2048]⟩
abbrev S16384x2048 : Shape := ⟨2, ![16384, 2048]⟩
abbrev S16384x1024 : Shape := ⟨2, ![16384, 1024]⟩
abbrev S16384x512 : Shape := ⟨2, ![16384, 512]⟩
abbrev S2x1x1024 : Shape := ⟨3, ![2, 1, 1024]⟩
abbrev S1x1024 : Shape := ⟨2, ![1, 1024]⟩
abbrev S512x512 : Shape := ⟨2, ![512, 512]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩

abbrev nBuf : Space → Nat
  | .hbm => 28
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x1024, .f32⟩
  | .hbm, ⟨4, _⟩ => ⟨S4x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S4x4096x2048, .f32⟩
  | .hbm, ⟨13, _⟩ => ⟨S16384x2048, .f32⟩
  | .hbm, ⟨14, _⟩ => ⟨S16384x2048, .bf16⟩
  | .hbm, ⟨15, _⟩ => ⟨S16384x1024, .f32⟩
  | .hbm, ⟨16, _⟩ => ⟨S16384x512, .f32⟩
  | .hbm, ⟨17, _⟩ => ⟨S16384x512, .bf16⟩
  | .hbm, ⟨18, _⟩ => ⟨S16384x512, .f32⟩
  | .hbm, ⟨19, _⟩ => ⟨S16384x512, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S2x1x1024, .f32⟩
  | .hbm, ⟨24, _⟩ => ⟨S1024x4096, .bf16⟩
  | .hbm, ⟨25, _⟩ => ⟨S4096x1024, .bf16⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x4096x1024 : Shape := ⟨3, ![4, 4096, 1024]⟩
abbrev S4x4096x512 : Shape := ⟨3, ![4, 4096, 512]⟩
abbrev S512x1024 : Shape := ⟨2, ![512, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x1024, .f32⟩
  | .hbm, ⟨4, _⟩ => ⟨S4x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1x1024, .f32⟩
  | .hbm, ⟨36, _⟩ => ⟨S1024, .f32⟩
  | .hbm, ⟨37, _⟩ => ⟨S4x4096x1024, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S4x4096x4096, .f32⟩
  | .hbm, ⟨54, _⟩ => ⟨S_, .f32⟩
  | .hbm, ⟨55, _⟩ => ⟨S4x4096x4096, .f32⟩
  | .hbm, ⟨56, _⟩ => ⟨S4x4096x4096, .f32⟩
  | .hbm, ⟨57, _⟩ => ⟨S4x4096x4096, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S4x4096x1024, .f32⟩
  | .hbm, ⟨75, _⟩ => ⟨S4x4096x1024, .f32⟩
  | .hbm, ⟨76, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S512x1024 : Shape := ⟨2, ![512, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1024 : Shape := ⟨1, ![1024]⟩
abbrev S4x4096x2048 : Shape := ⟨3, ![4, 4096, 2048]⟩
abbrev S16384x2048 : Shape := ⟨2, ![16384, 2048]⟩
abbrev S16384x1024 : Shape := ⟨2, ![16384, 1024]⟩
abbrev S16384x512 : Shape := ⟨2, ![16384, 512]⟩
abbrev S2x1x1024 : Shape := ⟨3, ![2, 1, 1024]⟩
abbrev S1x1024 : Shape := ⟨2, ![1, 1024]⟩
abbrev S512x512 : Shape := ⟨2, ![512, 512]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩

abbrev nBuf : Space → Nat
  | .hbm => 28
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x1024, .f32⟩
  | .hbm, ⟨4, _⟩ => ⟨S4x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S4x4096x2048, .f32⟩
  | .hbm, ⟨13, _⟩ => ⟨S16384x2048, .f32⟩
  | .hbm, ⟨14, _⟩ => ⟨S16384x2048, .bf16⟩
  | .hbm, ⟨15, _⟩ => ⟨S16384x1024, .f32⟩
  | .hbm, ⟨16, _⟩ => ⟨S16384x512, .f32⟩
  | .hbm, ⟨17, _⟩ => ⟨S16384x512, .bf16⟩
  | .hbm, ⟨18, _⟩ => ⟨S16384x512, .f32⟩
  | .hbm, ⟨19, _⟩ => ⟨S16384x512, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S2x1x1024, .f32⟩
  | .hbm, ⟨24, _⟩ => ⟨S1024x4096, .bf16⟩
  | .hbm, ⟨25, _⟩ => ⟨S4096x1024, .bf16⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x1024 : Shape := ⟨3, ![4, 4096, 1024]⟩
abbrev S4x4096x512 : Shape := ⟨3, ![4, 4096, 512]⟩
abbrev S512x1024 : Shape := ⟨2, ![512, 1024]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x1024, .f32⟩
  | .hbm, ⟨4, _⟩ => ⟨S4x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1x1024, .f32⟩
  | .hbm, ⟨36, _⟩ => ⟨S1024, .f32⟩
  | .hbm, ⟨37, _⟩ => ⟨S4x4096x1024, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S4x4096x4096, .f32⟩
  | .hbm, ⟨54, _⟩ => ⟨S_, .f32⟩
  | .hbm, ⟨55, _⟩ => ⟨S4x4096x4096, .f32⟩
  | .hbm, ⟨56, _⟩ => ⟨S4x4096x4096, .f32⟩
  | .hbm, ⟨57, _⟩ => ⟨S4x4096x4096, .f32⟩
  | .hbm, ⟨58, _⟩ => ⟨S4x4096x1024, .f32⟩
  | .hbm, ⟨59, _⟩ => ⟨S4x4096x1024, .f32⟩
  | .hbm, ⟨60, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel4.lean ====
abbrev S4x4096x512 : Shape := ⟨3, ![4, 4096, 512]⟩
abbrev S2x8x513 : Shape := ⟨3, ![2, 8, 513]⟩
abbrev S_ : Shape := ⟨0, ![]⟩
abbrev S16384x512 : Shape := ⟨2, ![16384, 512]⟩
abbrev S512x16384 : Shape := ⟨2, ![512, 16384]⟩
abbrev S4x32x128x512 : Shape := ⟨4, ![4, 32, 128, 512]⟩
abbrev S4x32x512x128 : Shape := ⟨4, ![4, 32, 512, 128]⟩
abbrev S2x8x1 : Shape := ⟨3, ![2, 8, 1]⟩
abbrev S2x8x256 : Shape := ⟨3, ![2, 8, 256]⟩
abbrev S2x8x384 : Shape := ⟨3, ![2, 8, 384]⟩
abbrev S2x8x1024 : Shape := ⟨3, ![2, 8, 1024]⟩
abbrev S512x1024 : Shape := ⟨2, ![512, 1024]⟩
abbrev S1x4096x512 : Shape := ⟨3, ![1, 4096, 512]⟩
abbrev S1x32x512x128 : Shape := ⟨4, ![1, 32, 512, 128]⟩
abbrev S1x8x1024 : Shape := ⟨3, ![1, 8, 1024]⟩
abbrev S1x1024x512 : Shape := ⟨3, ![1, 1024, 512]⟩
abbrev S8x1152x128 : Shape := ⟨3, ![8, 1152, 128]⟩
abbrev S640x128 : Shape := ⟨2, ![640, 128]⟩
abbrev S1x1x1024 : Shape := ⟨3, ![1, 1, 1024]⟩
abbrev S1x1024 : Shape := ⟨2, ![1, 1024]⟩
abbrev S128x1024 : Shape := ⟨2, ![128, 1024]⟩
abbrev S128x128 : Shape := ⟨2, ![128, 128]⟩
abbrev S1x640x128 : Shape := ⟨3, ![1, 640, 128]⟩
abbrev S512x128 : Shape := ⟨2, ![512, 128]⟩
abbrev S1x512x128 : Shape := ⟨3, ![1, 512, 128]⟩
abbrev S64x128 : Shape := ⟨2, ![64, 128]⟩
abbrev S1x128x128 : Shape := ⟨3, ![1, 128, 128]⟩
abbrev S128 : Shape := ⟨1, ![128]⟩
abbrev S1x128 : Shape := ⟨2, ![1, 128]⟩
abbrev S1x1x64x128 : Shape := ⟨4, ![1, 1, 64, 128]⟩
abbrev S128x512 : Shape := ⟨2, ![128, 512]⟩
abbrev S1x128x512 : Shape := ⟨3, ![1, 128, 512]⟩

abbrev nBuf : Space → Nat
  | .hbm => 29
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S2x8x513, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x512, .f32⟩
  | .hbm, ⟨9, _⟩ => ⟨S_, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .bf16⟩
  | .hbm, ⟨14, _⟩ => ⟨S512x16384, .bf16⟩
  | .hbm, ⟨15, _⟩ => ⟨S4x32x128x512, .f32⟩
  | .hbm, ⟨16, _⟩ => ⟨S4x32x512x128, .f32⟩
  | .hbm, ⟨17, _⟩ => ⟨S4x32x512x128, .bf16⟩
  | .hbm, ⟨18, _⟩ => ⟨S4x4096x512, .bf16⟩
  | .hbm, ⟨19, _⟩ => ⟨S2x8x1, .f32⟩
  | .hbm, ⟨20, _⟩ => ⟨S2x8x256, .f32⟩
  | .hbm, ⟨21, _⟩ => ⟨S2x8x384, .f32⟩
  | .hbm, ⟨22, _⟩ => ⟨S2x8x384, .f32⟩
  | .hbm, ⟨23, _⟩ => ⟨S2x8x1, .f32⟩
  | .hbm, ⟨24, _⟩ => ⟨S2x8x384, .f32⟩
  | .hbm, ⟨25, _⟩ => ⟨S2x8x1024, .f32⟩
  | .hbm, ⟨26, _⟩ => ⟨S2x8x1024, .f32⟩
  | .hbm, ⟨27, _⟩ => ⟨S2x8x1024, .f32⟩
  | .hbm, ⟨28, _⟩ => ⟨S4x4096x512, .bf16⟩
  | .local _ .vmem, ⟨0, _⟩ => ⟨S512x1024, .bf16⟩
  | .local _ .vmem, ⟨1, _⟩ => ⟨S512x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x32x512x128, .bf16⟩
  | .local _ .vmem, ⟨5, _⟩ => ⟨S1x32x512x128, .bf16⟩
  | .local _ .vmem, ⟨6, _⟩ => ⟨S1x8x1024, .f32⟩
  | .local _ .vmem, ⟨7, _⟩ => ⟨S1x1024x512, .bf16⟩
  | .local _ .vmem, ⟨8, _⟩ => ⟨S1x1024x512, .bf16⟩
  | .local _ .vmem, ⟨9, _⟩ => ⟨S8x1152x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c8_i32 : BitVec 32 := 8#32
  let v7 : BitVec 32 := Scalar.muli arg1 c8_i32
  let c0_i32_3 : BitVec 32 := 0#32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  v11
def k0_mult2 (i : grid0.Coords) : BitVec 32 :=
  let c512_i32 : BitVec 32 := 512#32
  let arg1 : BitVec 32 := BitVec.ofNat 32 (i 1).val
  let c8_i32 : BitVec 32 := 8#32
  let v7 : BitVec 32 := Scalar.muli arg1 c8_i32
  let c0_i32_3 : BitVec 32 := 0#32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  v15
def k0_off1 (i : grid0.Coords) (c0_i32_3 : BitVec 32) (c0_i32_7 : BitVec 32) : Fin 3 → Nat :=
  let c0_8 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  let v12 : BitVec 32 := v11
  let v20 : BitVec 32 := Scalar.addi v12 c0_i32_7
  let v21 : Index := Scalar.indexCast v20
  let c0_9 : Index := 0#32
  ![0, v21.toNat, 0]
def k0_off2 (i : grid0.Coords) (c0_i32_3 : BitVec 32) (c0_i32_11 : BitVec 32) : Fin 3 → Nat :=
  let c0_12 : Index := 0#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v25 : BitVec 32 := Scalar.addi v16 c0_i32_11
  let v26 : Index := Scalar.indexCast v25
  let c0_13 : Index := 0#32
  ![0, v26.toNat, 0]
def k0_off3 (i : grid0.Coords) (c0_i32_3 : BitVec 32) (c0_i32_15 : BitVec 32) : Fin 4 → Nat :=
  let c0_16 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v36 : BitVec 32 := Scalar.addi v10 c0_i32_15
  let v37 : Index := Scalar.indexCast v36
  let c0_17 : Index := 0#32
  let c0_18 : Index := 0#32
  ![0, v37.toNat, 0, 0]
def k0_off4 (i : grid0.Coords) (c0_i32_3 : BitVec 32) (c0_i32_72 : BitVec 32) : Fin 3 → Nat :=
  let c1 : Index := 1#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v170 : BitVec 32 := Scalar.addi v16 c0_i32_72
  let v171 : Index := Scalar.indexCast v170
  let c0_73 : Index := 0#32
  ![1, v171.toNat, 0]
def k0_off5 (i : grid0.Coords) (c0_i32_3 : BitVec 32) (c0_i32_75 : BitVec 32) : Fin 4 → Nat :=
  let c0_76 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v181 : BitVec 32 := Scalar.addi v10 c0_i32_75
  let v182 : Index := Scalar.indexCast v181
  let c64_77 : Index := 64#32
  let c0_78 : Index := 0#32
  ![0, v182.toNat, 64, 0]
def k0_off6 (i : grid0.Coords) (c0_i32_3 : BitVec 32) (c0_i32_133 : BitVec 32) : Fin 3 → Nat :=
  let c0_134 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  let v12 : BitVec 32 := v11
  let v310 : BitVec 32 := Scalar.addi v12 c0_i32_133
  let v311 : Index := Scalar.indexCast v310
  let c128_135 : Index := 128#32
  ![0, v311.toNat, 128]
def k0_off7 (i : grid0.Coords) (c0_i32_3 : BitVec 32) (c0_i32_137 : BitVec 32) : Fin 3 → Nat :=
  let c2 : Index := 2#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v315 : BitVec 32 := Scalar.addi v16 c0_i32_137
  let v316 : Index := Scalar.indexCast v315
  let c0_138 : Index := 0#32
  ![2, v316.toNat, 0]
def k0_off8 (i : grid0.Coords) (c0_i32_3 : BitVec 32) (c0_i32_140 : BitVec 32) : Fin 4 → Nat :=
  let c0_141 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v326 : BitVec 32 := Scalar.addi v10 c0_i32_140
  let v327 : Index := Scalar.indexCast v326
  let c128_142 : Index := 128#32
  let c0_143 : Index := 0#32
  ![0, v327.toNat, 128, 0]
def k0_off9 (i : grid0.Coords) (c0_i32_3 : BitVec 32) (c0_i32_202 : BitVec 32) : Fin 3 → Nat :=
  let c3 : Index := 3#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v460 : BitVec 32 := Scalar.addi v16 c0_i32_202
  let v461 : Index := Scalar.indexCast v460
  let c0_203 : Index := 0#32
  ![3, v461.toNat, 0]
def k0_off10 (i : grid0.Coords) (c0_i32_3 : BitVec 32) (c0_i32_205 : BitVec 32) : Fin 4 → Nat :=
  let c0_206 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v471 : BitVec 32 := Scalar.addi v10 c0_i32_205
  let v472 : Index := Scalar.indexCast v471
  let c192_207 : Index := 192#32
  let c0_208 : Index := 0#32
  ![0, v472.toNat, 192, 0]
def k0_off11 (i : grid0.Coords) (c0_i32_3 : BitVec 32) (c0_i32_263 : BitVec 32) : Fin 3 → Nat :=
  let c0_264 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  let v12 : BitVec 32 := v11
  let v600 : BitVec 32 := Scalar.addi v12 c0_i32_263
  let v601 : Index := Scalar.indexCast v600
  let c256_265 : Index := 256#32
  ![0, v601.toNat, 256]
def k0_off12 (i : grid0.Coords) (c0_i32_3 : BitVec 32) (c0_i32_267 : BitVec 32) : Fin 3 → Nat :=
  let c4 : Index := 4#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v605 : BitVec 32 := Scalar.addi v16 c0_i32_267
  let v606 : Index := Scalar.indexCast v605
  let c0_268 : Index := 0#32
  ![4, v606.toNat, 0]
def k0_off13 (i : grid0.Coords) (c0_i32_3 : BitVec 32) (c0_i32_270 : BitVec 32) : Fin 4 → Nat :=
  let c0_271 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v616 : BitVec 32 := Scalar.addi v10 c0_i32_270
  let v617 : Index := Scalar.indexCast v616
  let c256_272 : Index := 256#32
  let c0_273 : Index := 0#32
  ![0, v617.toNat, 256, 0]
def k0_off14 (i : grid0.Coords) (c0_i32_3 : BitVec 32) (c0_i32_332 : BitVec 32) : Fin 3 → Nat :=
  let c5 : Index := 5#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v750 : BitVec 32 := Scalar.addi v16 c0_i32_332
  let v751 : Index := Scalar.indexCast v750
  let c0_333 : Index := 0#32
  ![5, v751.toNat, 0]
def k0_off15 (i : grid0.Coords) (c0_i32_3 : BitVec 32) (c0_i32_335 : BitVec 32) : Fin 4 → Nat :=
  let c0_336 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v761 : BitVec 32 := Scalar.addi v10 c0_i32_335
  let v762 : Index := Scalar.indexCast v761
  let c320_337 : Index := 320#32
  let c0_338 : Index := 0#32
  ![0, v762.toNat, 320, 0]
def k0_off16 (i : grid0.Coords) (c0_i32_3 : BitVec 32) (c0_i32_393 : BitVec 32) : Fin 3 → Nat :=
  let c0_394 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let c128_i32 : BitVec 32 := 128#32
  let v11 : BitVec 32 := Scalar.muli v10 c128_i32
  let v12 : BitVec 32 := v11
  let v890 : BitVec 32 := Scalar.addi v12 c0_i32_393
  let v891 : Index := Scalar.indexCast v890
  let c384_395 : Index := 384#32
  ![0, v891.toNat, 384]
def k0_off17 (i : grid0.Coords) (c0_i32_3 : BitVec 32) (c0_i32_397 : BitVec 32) : Fin 3 → Nat :=
  let c6 : Index := 6#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v895 : BitVec 32 := Scalar.addi v16 c0_i32_397
  let v896 : Index := Scalar.indexCast v895
  let c0_398 : Index := 0#32
  ![6, v896.toNat, 0]
def k0_off18 (i : grid0.Coords) (c0_i32_3 : BitVec 32) (c0_i32_400 : BitVec 32) : Fin 4 → Nat :=
  let c0_401 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v906 : BitVec 32 := Scalar.addi v10 c0_i32_400
  let v907 : Index := Scalar.indexCast v906
  let c384_402 : Index := 384#32
  let c0_403 : Index := 0#32
  ![0, v907.toNat, 384, 0]
def k0_off19 (i : grid0.Coords) (c0_i32_3 : BitVec 32) (c0_i32_462 : BitVec 32) : Fin 3 → Nat :=
  let c7 : Index := 7#32
  let c512_i32 : BitVec 32 := 512#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v13 : BitVec 32 := Scalar.subi v8 v10
  let c128_i32_5 : BitVec 32 := 128#32
  let v14 : BitVec 32 := Scalar.muli v13 c128_i32_5
  let v15 : BitVec 32 := Scalar.subi c512_i32 v14
  let v16 : BitVec 32 := v15
  let v1040 : BitVec 32 := Scalar.addi v16 c0_i32_462
  let v1041 : Index := Scalar.indexCast v1040
  let c0_463 : Index := 0#32
  ![7, v1041.toNat, 0]
def k0_off20 (i : grid0.Coords) (c0_i32_3 : BitVec 32) (c0_i32_465 : BitVec 32) : Fin 4 → Nat :=
  let c0_466 : Index := 0#32
  let arg1 : BitVec 32 := BitVec.ofNat 32 (i 1).val
  let c8_i32 : BitVec 32 := 8#32
  let v7 : BitVec 32 := Scalar.muli arg1 c8_i32
  let v8 : BitVec 32 := Scalar.addi v7 c0_i32_3
  let c4_i32 : BitVec 32 := 4#32
  let v9 : BitVec 32 := Scalar.subi v8 c4_i32
  let c0_i32_4 : BitVec 32 := 0#32
  let v10 : BitVec 32 := Scalar.maxsi v9 c0_i32_4
  let v1051 : BitVec 32 := Scalar.addi v10 c0_i32_465
  let v1052 : Index := Scalar.indexCast v1051
  let c448_467 : Index := 448#32
  let c0_468 : Index := 0#32
  ![0, v1052.toNat, 448, 0]
def k0_mult3 (i : grid0.Coords) : BitVec 32 :=
  let arg1 : BitVec 32 := BitVec.ofNat 32 (i 1).val
  let c8_i32_525 : BitVec 32 := 8#32
  let v1183 : BitVec 32 := Scalar.muli arg1 c8_i32_525
  let c1_i32_526 : BitVec 32 := 1#32
  let v1184 : BitVec 32 := Scalar.addi v1183 c1_i32_526
  let c4_i32_527 : BitVec 32 := 4#32
  let v1185 : BitVec 32 := Scalar.subi v1184 c4_i32_527
  let c0_i32_528 : BitVec 32 := 0#32
  let v1186 : BitVec 32 := Scalar.maxsi v1185 c0_i32_528
  let c128_i32_529 : BitVec 32 := 128#32
  let v1187 : BitVec 32 := Scalar.muli v1186 c128_i32_529
  v1187
def k0_mult4 (i : grid0.Coords) : BitVec 32 :=
  let c512_i32_531 : BitVec 32 := 512#32
  let arg1 : BitVec 32 := BitVec.ofNat 32 (i 1).val
  let c8_i32_525 : BitVec 32 := 8#32
  let v1183 : BitVec 32 := Scalar.muli arg1 c8_i32_525
  let c1_i32_526 : BitVec 32 := 1#32
  let v1184 : BitVec 32 := Scalar.addi v1183 c1_i32_526
  let c4_i32_527 : BitVec 32 := 4#32
  let v1185 : BitVec 32 := Scalar.subi v1184 c4_i32_527
  let c0_i32_528 : BitVec 32 := 0#32
  let v1186 : BitVec 32 := Scalar.maxsi v1185 c0_i32_528
  let v1189 : BitVec 32 := Scalar.subi v1184 v1186
  let c128_i32_530 : BitVec 32 := 128#32
  let v1190 : BitVec 32 := Scalar.muli v1189 c128_i32_530
  let v1191 : BitVec 32 := Scalar.subi c512_i32_531 v1190
  v1191
def k0_mult5 (i : grid0.Coords) : BitVec 32 :=
  let arg1 : BitVec 32 := BitVec.ofNat 32 (i 1).val
  let c8_i32_1071 : BitVec 32 := 8#32
  let v2359 : BitVec 32 := Scalar.muli arg1 c8_i32_1071
  let c2_i32_1072 : BitVec 32 := 2#32
  let v2360 : BitVec 32 := Scalar.addi v2359 c2_i32_1072
  let c4_i32_1073 : BitVec 32 := 4#32
  let v2361 : BitVec 32 := Scalar.subi v2360 c4_i32_1073
  let c0_i32_1074 : BitVec 32 := 0#32
  let v2362 : BitVec 32 := Scalar.maxsi v2361 c0_i32_1074
  let c128_i32_1075 : BitVec 32 := 128#32
  let v2363 : BitVec 32 := Scalar.muli v2362 c128_i32_1075
  v2363
def k0_mult6 (i : grid0.Coords) : BitVec 32 :=
  let c512_i32_1077 : BitVec 32 := 512#32
  let arg1 : BitVec 32 := BitVec.ofNat 32 (i 1).val
  let c8_i32_1071 : BitVec 32 := 8#32
  let v2359 : BitVec 32 := Scalar.muli arg1 c8_i32_1071
  let c2_i32_1072 : BitVec 32 := 2#32
  let v2360 : BitVec 32 := Scalar.addi v2359 c2_i32_1072
  let c4_i32_1073 : BitVec 32 := 4#32
  let v2361 : BitVec 32 := Scalar.subi v2360 c4_i32_1073
  let c0_i32_1074 : BitVec 32 := 0#32
  let v2362 : BitVec 32 := Scalar.maxsi v2361 c0_i32_1074
  let v2365 : BitVec 32 := Scalar.subi v2360 v2362
  let c128_i32_1076 : BitVec 32 := 128#32
  let v2366 : BitVec 32 := Scalar.muli v2365 c128_i32_1076
  let v2367 : BitVec 32 := Scalar.subi c512_i32_1077 v2366
  v2367
def k0_mult7 (i : grid0.Coords) : BitVec 32 :=
  let arg1 : BitVec 32 := BitVec.ofNat 32 (i 1).val
  let c8_i32_1617 : BitVec 32 := 8#32
  let v3535 : BitVec 32 := Scalar.muli arg1 c8_i32_1617
  let c3_i32_1618 : BitVec 32 := 3#32
  let v3536 : BitVec 32 := Scalar.addi v3535 c3_i32_1618
  let c4_i32_1619 : BitVec 32 := 4#32
  let v3537 : BitVec 32 := Scalar.subi v3536 c4_i32_1619
  let c0_i32_1620 : BitVec 32 := 0#32
  let v3538 : BitVec 32 := Scalar.maxsi v3537 c0_i32_1620
  let c128_i32_1621 : BitVec 32 := 128#32
  let v3539 : BitVec 32 := Scalar.muli v3538 c128_i32_1621
  v3539
def k0_mult8 (i : grid0.Coords) : BitVec 32 :=
  let c512_i32_1623 : BitVec 32 := 512#32
  let arg1 : BitVec 32 := BitVec.ofNat 32 (i 1).val
  let c8_i32_1617 : BitVec 32 := 8#32
  let v3535 : BitVec 32 := Scalar.muli arg1 c8_i32_1617
  let c3_i32_1618 : BitVec 32 := 3#32
  let v3536 : BitVec 32 := Scalar.addi v3535 c3_i32_1618
  let c4_i32_1619 : BitVec 32 := 4#32
  let v3537 : BitVec 32 := Scalar.subi v3536 c4_i32_1619
  let c0_i32_1620 : BitVec 32 := 0#32
  let v3538 : BitVec 32 := Scalar.maxsi v3537 c0_i32_1620
  let v3541 : BitVec 32 := Scalar.subi v3536 v3538
  let c128_i32_1622 : BitVec 32 := 128#32
  let v3542 : BitVec 32 := Scalar.muli v3541 c128_i32_1622
  let v3543 : BitVec 32 := Scalar.subi c512_i32_1623 v3542
  v3543
def k0_mult9 (i : grid0.Coords) : BitVec 32 :=
  let arg1 : BitVec 32 := BitVec.ofNat 32 (i 1).val
  let c8_i32_2163 : BitVec 32 := 8#32
  let v4711 : BitVec 32 := Scalar.muli arg1 c8_i32_2163
  let c4_i32_2164 : BitVec 32 := 4#32
  let v4712 : BitVec 32 := Scalar.addi v4711 c4_i32_2164
  let c4_i32_2165 : BitVec 32 := 4#32
  let v4713 : BitVec 32 := Scalar.subi v4712 c4_i32_2165
  let c0_i32_2166 : BitVec 32 := 0#32
  let v4714 : BitVec 32 := Scalar.maxsi v4713 c0_i32_2166
  let c128_i32_2167 : BitVec 32 := 128#32
  let v4715 : BitVec 32 := Scalar.muli v4714 c128_i32_2167
  v4715
def k0_mult10 (i : grid0.Coords) : BitVec 32 :=
  let c512_i32_2169 : BitVec 32 := 512#32
  let arg1 : BitVec 32 := BitVec.ofNat 32 (i 1).val
  let c8_i32_2163 : BitVec 32 := 8#32
  let v4711 : BitVec 32 := Scalar.muli arg1 c8_i32_2163
  let c4_i32_2164 : BitVec 32 := 4#32
  let v4712 : BitVec 32 := Scalar.addi v4711 c4_i32_2164
  let c4_i32_2165 : BitVec 32 := 4#32
  let v4713 : BitVec 32 := Scalar.subi v4712 c4_i32_2165
  let c0_i32_2166 : BitVec 32 := 0#32
  let v4714 : BitVec 32 := Scalar.maxsi v4713 c0_i32_2166
  let v4717 : BitVec 32 := Scalar.subi v4712 v4714
  let c128_i32_2168 : BitVec 32 := 128#32
  let v4718 : BitVec 32 := Scalar.muli v4717 c128_i32_2168
  let v4719 : BitVec 32 := Scalar.subi c512_i32_2169 v4718
  v4719
def k0_mult11 (i : grid0.Coords) : BitVec 32 :=
  let arg1 : BitVec 32 := BitVec.ofNat 32 (i 1).val
  let c8_i32_2708 : BitVec 32 := 8#32
  let v5887 : BitVec 32 := Scalar.muli arg1 c8_i32_2708
  let c5_i32 : BitVec 32 := 5#32
  let v5888 : BitVec 32 := Scalar.addi v5887 c5_i32
  let c4_i32_2709 : BitVec 32 := 4#32
  let v5889 : BitVec 32 := Scalar.subi v5888 c4_i32_2709
  let c0_i32_2710 : BitVec 32 := 0#32
  let v5890 : BitVec 32 := Scalar.maxsi v5889 c0_i32_2710
  let c128_i32_2711 : BitVec 32 := 128#32
  let v5891 : BitVec 32 := Scalar.muli v5890 c128_i32_2711
  v5891
def k0_mult12 (i : grid0.Coords) : BitVec 32 :=
  let c512_i32_2713 : BitVec 32 := 512#32
  let arg1 : BitVec 32 := BitVec.ofNat 32 (i 1).val
  let c8_i32_2708 : BitVec 32 := 8#32
  let v5887 : BitVec 32 := Scalar.muli arg1 c8_i32_2708
  let c5_i32 : BitVec 32 := 5#32
  let v5888 : BitVec 32 := Scalar.addi v5887 c5_i32
  let c4_i32_2709 : BitVec 32 := 4#32
  let v5889 : BitVec 32 := Scalar.subi v5888 c4_i32_2709
  let c0_i32_2710 : BitVec 32 := 0#32
  let v5890 : BitVec 32 := Scalar.maxsi v5889 c0_i32_2710
  let v5893 : BitVec 32 := Scalar.subi v5888 v5890
  let c128_i32_2712 : BitVec 32 := 128#32
  let v5894 : BitVec 32 := Scalar.muli v5893 c128_i32_2712
  let v5895 : BitVec 32 := Scalar.subi c512_i32_2713 v5894
  v5895
def k0_mult13 (i : grid0.Coords) : BitVec 32 :=
  let arg1 : BitVec 32 := BitVec.ofNat 32 (i 1).val
  let c8_i32_3252 : BitVec 32 := 8#32
  let v7063 : BitVec 32 := Scalar.muli arg1 c8_i32_3252
  let c6_i32 : BitVec 32 := 6#32
  let v7064 : BitVec 32 := Scalar.addi v7063 c6_i32
  let c4_i32_3253 : BitVec 32 := 4#32
  let v7065 : BitVec 32 := Scalar.subi v7064 c4_i32_3253
  let c0_i32_3254 : BitVec 32 := 0#32
  let v7066 : BitVec 32 := Scalar.maxsi v7065 c0_i32_3254
  let c128_i32_3255 : BitVec 32 := 128#32
  let v7067 : BitVec 32 := Scalar.muli v7066 c128_i32_3255
  v7067
def k0_mult14 (i : grid0.Coords) : BitVec 32 :=
  let c512_i32_3257 : BitVec 32 := 512#32
  let arg1 : BitVec 32 := BitVec.ofNat 32 (i 1).val
  let c8_i32_3252 : BitVec 32 := 8#32
  let v7063 : BitVec 32 := Scalar.muli arg1 c8_i32_3252
  let c6_i32 : BitVec 32 := 6#32
  let v7064 : BitVec 32 := Scalar.addi v7063 c6_i32
  let c4_i32_3253 : BitVec 32 := 4#32
  let v7065 : BitVec 32 := Scalar.subi v7064 c4_i32_3253
  let c0_i32_3254 : BitVec 32 := 0#32
  let v7066 : BitVec 32 := Scalar.maxsi v7065 c0_i32_3254
  let v7069 : BitVec 32 := Scalar.subi v7064 v7066
  let c128_i32_3256 : BitVec 32 := 128#32
  let v7070 : BitVec 32 := Scalar.muli v7069 c128_i32_3256
  let v7071 : BitVec 32 := Scalar.subi c512_i32_3257 v7070
  v7071
def k0_mult15 (i : grid0.Coords) : BitVec 32 :=
  let arg1 : BitVec 32 := BitVec.ofNat 32 (i 1).val
  let c8_i32_3796 : BitVec 32 := 8#32
  let v8239 : BitVec 32 := Scalar.muli arg1 c8_i32_3796
  let c7_i32 : BitVec 32 := 7#32
  let v8240 : BitVec 32 := Scalar.addi v8239 c7_i32
  let c4_i32_3797 : BitVec 32 := 4#32
  let v8241 : BitVec 32 := Scalar.subi v8240 c4_i32_3797
  let c0_i32_3798 : BitVec 32 := 0#32
  let v8242 : BitVec 32 := Scalar.maxsi v8241 c0_i32_3798
  let c128_i32_3799 : BitVec 32 := 128#32
  let v8243 : BitVec 32 := Scalar.muli v8242 c128_i32_3799
  v8243
def k0_mult16 (i : grid0.Coords) : BitVec 32 :=
  let c512_i32_3801 : BitVec 32 := 512#32
  let arg1 : BitVec 32 := BitVec.ofNat 32 (i 1).val
  let c8_i32_3796 : BitVec 32 := 8#32
  let v8239 : BitVec 32 := Scalar.muli arg1 c8_i32_3796
  let c7_i32 : BitVec 32 := 7#32
  let v8240 : BitVec 32 := Scalar.addi v8239 c7_i32
  let c4_i32_3797 : BitVec 32 := 4#32
  let v8241 : BitVec 32 := Scalar.subi v8240 c4_i32_3797
  let c0_i32_3798 : BitVec 32 := 0#32
  let v8242 : BitVec 32 := Scalar.maxsi v8241 c0_i32_3798
  let v8245 : BitVec 32 := Scalar.subi v8240 v8242
  let c128_i32_3800 : BitVec 32 := 128#32
  let v8246 : BitVec 32 := Scalar.muli v8245 c128_i32_3800
  let v8247 : BitVec 32 := Scalar.subi c512_i32_3801 v8246
  v8247
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S4x4096x512 : Shape := ⟨3, ![4, 4096, 512]⟩
abbrev S2x8x513 : Shape := ⟨3, ![2, 8, 513]⟩
abbrev S4x64x64x8x64 : Shape := ⟨5, ![4, 64, 64, 8, 64]⟩
abbrev S_ : Shape := ⟨0, ![]⟩
abbrev S4x72x64x8x64 : Shape := ⟨5, ![4, 72, 64, 8, 64]⟩
abbrev S4x64x576x8x64 : Shape := ⟨5, ![4, 64, 576, 8, 64]⟩
abbrev S4x64x8x64x576 : Shape := ⟨5, ![4, 64, 8, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S1x8x513 : Shape := ⟨3, ![1, 8, 513]⟩
abbrev S8x513 : Shape := ⟨2, ![8, 513]⟩
abbrev S64x576x1 : Shape := ⟨3, ![64, 576, 1]⟩
abbrev S8x64x576 : Shape := ⟨3, ![8, 64, 576]⟩
abbrev S1x1x8x64x576 : Shape := ⟨5, ![1, 1, 8, 64, 576]⟩
abbrev S1x64x1x1x576 : Shape := ⟨5, ![1, 64, 1, 1, 576]⟩
abbrev S4x64x8x64 : Shape := ⟨4, ![4, 64, 8, 64]⟩
abbrev S4x64x8x64x1 : Shape := ⟨5, ![4, 64, 8, 64, 1]⟩
abbrev S4x64x8x64x64 : Shape := ⟨5, ![4, 64, 8, 64, 64]⟩

abbrev nBuf : Space → Nat
  | .hbm => 125
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S2x8x513, .f32⟩
  | .hbm, ⟨4, _⟩ => ⟨S4x64x64x8x64, .f32⟩
  | .hbm, ⟨5, _⟩ => ⟨S4x64x64x8x64, .f32⟩
  | .hbm, ⟨6, _⟩ => ⟨S_, .i32⟩
  | .hbm, ⟨7, _⟩ => ⟨S_, .f32⟩
  | .hbm, ⟨8, _⟩ => ⟨S4x72x64x8x64, .f32⟩
  | .hbm, ⟨9, _⟩ => ⟨S4x64x64x8x64, .f32⟩
  | .hbm, ⟨10, _⟩ => ⟨S_, .i32⟩
  | .hbm, ⟨11, _⟩ => ⟨S_, .f32⟩
  | .hbm, ⟨12, _⟩ => ⟨S4x72x64x8x64, .f32⟩
  | .hbm, ⟨13, _⟩ => ⟨S4x64x64x8x64, .f32⟩
  | .hbm, ⟨14, _⟩ => ⟨S4x64x64x8x64, .f32⟩
  | .hbm, ⟨15, _⟩ => ⟨S4x64x64x8x64, .f32⟩
  | .hbm, ⟨16, _⟩ => ⟨S4x64x64x8x64, .f32⟩
  | .hbm, ⟨17, _⟩ => ⟨S4x64x64x8x64, .f32⟩
  | .hbm, ⟨18, _⟩ => ⟨S4x64x64x8x64, .f32⟩
  | .hbm, ⟨19, _⟩ => ⟨S4x64x64x8x64, .f32⟩
  | .hbm, ⟨20, _⟩ => ⟨S4x64x64x8x64, .f32⟩
  | .hbm, ⟨21, _⟩ => ⟨S4x64x64x8x64, .f32⟩
  | .hbm, ⟨22, _⟩ => ⟨S4x64x576x8x64, .f32⟩
  | .hbm, ⟨23, _⟩ => ⟨S4x64x64x8x64, .f32⟩
  | .hbm, ⟨24, _⟩ => ⟨S4x64x64x8x64, .f32⟩
  | .hbm, ⟨25, _⟩ => ⟨S4x64x64x8x64, .f32⟩
  | .hbm, ⟨26, _⟩ => ⟨S4x64x64x8x64, .f32⟩
  | .hbm, ⟨27, _⟩ => ⟨S4x64x64x8x64, .f32⟩
  | .hbm, ⟨28, _⟩ => ⟨S4x64x64x8x64, .f32⟩
  | .hbm, ⟨29, _⟩ => ⟨S4x64x64x8x64, .f32⟩
  | .hbm, ⟨30, _⟩ => ⟨S4x64x64x8x64, .f32⟩
  | .hbm, ⟨31, _⟩ => ⟨S4x64x64x8x64, .f32⟩
  | .hbm, ⟨32, _⟩ => ⟨S4x64x576x8x64, .f32⟩
  | .hbm, ⟨33, _⟩ => ⟨S4x64x8x64x576, .f32⟩
  | .hbm, ⟨34, _⟩ => ⟨S_, .f32⟩
  | .hbm, ⟨35, _⟩ => ⟨S4x64x8x64x576, .f32⟩
  | .hbm, ⟨36, _⟩ => ⟨S4x64x8x64x576, .f32⟩
  | .hbm, ⟨37, _⟩ => ⟨S64, .i32⟩
  | .hbm, ⟨38, _⟩ => ⟨S64x1, .i32⟩
  | .hbm, ⟨39, _⟩ => ⟨S576, .i32⟩
  | .hbm, ⟨40, _⟩ => ⟨S1x576, .i32⟩
  | .hbm, ⟨41, _⟩ => ⟨S64x576, .i32⟩
  | .hbm, ⟨42, _⟩ => ⟨S64x576, .i32⟩
  | .hbm, ⟨43, _⟩ => ⟨S64x576, .i32⟩
  | .hbm, ⟨44, _⟩ => ⟨S_, .i32⟩
  | .hbm, ⟨45, _⟩ => ⟨S64x576, .i32⟩
  | .hbm, ⟨46, _⟩ => ⟨S64x576, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64x576, .i32⟩
  | .hbm, ⟨51, _⟩ => ⟨S64x576, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S1x8x513, .f32⟩
  | .hbm, ⟨59, _⟩ => ⟨S8x513, .f32⟩
  | .hbm, ⟨60, _⟩ => ⟨S_, .i32⟩
  | .hbm, ⟨61, _⟩ => ⟨S64x576, .i32⟩
  | .hbm, ⟨62, _⟩ => ⟨S64x576, .i1⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S64x576, .i32⟩
  | .hbm, ⟨67, _⟩ => ⟨S64x576x1, .i32⟩
  | .hbm, ⟨68, _⟩ => ⟨S8x64x576, .f32⟩
  | .hbm, ⟨69, _⟩ => ⟨S64, .i32⟩
  | .hbm, ⟨70, _⟩ => ⟨S64x1, .i32⟩
  | .hbm, ⟨71, _⟩ => ⟨S_, .i32⟩
  | .hbm, ⟨72, _⟩ => ⟨S64x1, .i32⟩
  | .hbm, ⟨73, _⟩ => ⟨S64x1, .i32⟩
  | .hbm, ⟨74, _⟩ => ⟨S_, .i32⟩
  | .hbm, ⟨75, _⟩ => ⟨S_, .i32⟩
  | .hbm, ⟨76, _⟩ => ⟨S1x576, .i32⟩
  | .hbm, ⟨77, _⟩ => ⟨S1x576, .i32⟩
  | .hbm, ⟨78, _⟩ => ⟨S1x576, .i32⟩
  | .hbm, ⟨79, _⟩ => ⟨S_, .i32⟩
  | .hbm, ⟨80, _⟩ => ⟨S1x576, .i32⟩
  | .hbm, ⟨81, _⟩ => ⟨S1x576, .i1⟩
  | .hbm, ⟨82, _⟩ => ⟨S1x576, .i32⟩
  | .hbm, ⟨83, _⟩ => ⟨S1x576, .i32⟩
  | .hbm, ⟨84, _⟩ => ⟨S_, .i32⟩
  | .hbm, ⟨85, _⟩ => ⟨S1x576, .i32⟩
  | .hbm, ⟨86, _⟩ => ⟨S1x576, .i1⟩
  | .hbm, ⟨87, _⟩ => ⟨S1x576, .i1⟩
  | .hbm, ⟨88, _⟩ => ⟨S_, .i32⟩
  | .hbm, ⟨89, _⟩ => ⟨S1x576, .i32⟩
  | .hbm, ⟨90, _⟩ => ⟨S1x576, .i32⟩
  | .hbm, ⟨91, _⟩ => ⟨S1x576, .i32⟩
  | .hbm, ⟨92, _⟩ => ⟨S64x576, .i32⟩
  | .hbm, ⟨93, _⟩ => ⟨S64x576, .i32⟩
  | .hbm, ⟨94, _⟩ => ⟨S64x576, .i32⟩
  | .hbm, ⟨95, _⟩ => ⟨S_, .i32⟩
  | .hbm, ⟨96, _⟩ => ⟨S64x576, .i32⟩
  | .hbm, ⟨97, _⟩ => ⟨S64x576, .i1⟩
  | .hbm, ⟨98, _⟩ => ⟨S1x1x8x64x576, .f32⟩
  | .hbm, ⟨99, _⟩ => ⟨S4x64x8x64x576, .f32⟩
  | .hbm, ⟨100, _⟩ => ⟨S4x64x8x64x576, .f32⟩
  | .hbm, ⟨101, _⟩ => ⟨S1x64x1x1x576, .i1⟩
  | .hbm, ⟨102, _⟩ => ⟨S_, .f32⟩
  | .hbm, ⟨103, _⟩ => ⟨S_, .f32⟩
  | .hbm, ⟨104, _⟩ => ⟨S4x64x8x64x576, .i1⟩
  | .hbm, ⟨105, _⟩ => ⟨S4x64x8x64x576, .f32⟩
  | .hbm, ⟨106, _⟩ => ⟨S4x64x8x64x576, .f32⟩
  | .hbm, ⟨107, _⟩ => ⟨S_, .f32⟩
  | .hbm, ⟨108, _⟩ => ⟨S4x64x8x64, .f32⟩
  | .hbm, ⟨109, _⟩ => ⟨S_, .f32⟩
  | .hbm, ⟨110, _⟩ => ⟨S4x64x8x64, .f32⟩
  | .hbm, ⟨111, _⟩ => ⟨S4x64x8x64, .f32⟩
  | .hbm, ⟨112, _⟩ => ⟨S4x64x8x64x1, .f32⟩
  | .hbm, ⟨113, _⟩ => ⟨S4x64x8x64x576, .f32⟩
  | .hbm, ⟨114, _⟩ => ⟨S4x64x8x64x576, .f32⟩
  | .hbm, ⟨115, _⟩ => ⟨S4x64x8x64x576, .f32⟩
  | .hbm, ⟨116, _⟩ => ⟨S_, .f32⟩
  | .hbm, ⟨117, _⟩ => ⟨S4x64x8x64, .f32⟩
  | .hbm, ⟨118, _⟩ => ⟨S4x64x8x64x1, .f32⟩
  | .hbm, ⟨119, _⟩ => ⟨S4x64x8x64x576, .f32⟩
  | .hbm, ⟨120, _⟩ => ⟨S4x64x8x64x576, .f32⟩
  | .hbm, ⟨121, _⟩ => ⟨S4x64x8x64x64, .f32⟩
  | .hbm, ⟨122, _⟩ => ⟨S4x64x64x8x64, .f32⟩
  | .hbm, ⟨123, _⟩ => ⟨S4x4096x512, .f32⟩
  | .hbm, ⟨124, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_1 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_c : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_0 : Ref sig .tc := ⟨.hbm, 88, rfl⟩
abbrev main_call3_v12 : Ref sig .tc := ⟨.hbm, 89, rfl⟩
abbrev main_call3_v13 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_9 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_10 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v63 : Ref sig .tc := ⟨.hbm, 106, rfl⟩
abbrev main_cst_11 : Ref sig .tc := ⟨.hbm, 107, rfl⟩
abbrev main_v64 : Ref sig .tc := ⟨.hbm, 108, rfl⟩
abbrev main_cst_12 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_13 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩

abbrev nD : Nat := 1
abbrev τ : Topo := Topo.v7x

variable {F : FTy → Type} [FloatOps F]
-- ==== Proof.Att.Defs.lean ====
module

public import proofs.«01_k».proof.Proof.Gen.KernelIdeal.Frame
public import proofs.«01_k».proof.Proof.Gen.KernelIdeal.Skeleton

/-!
# What one grid point of the band attention computes

A grid point holds 1024 rows of the band, in eight sub tiles of 128 rows; a sub tile has eight heads, and a
head reads five tiles of 128 keys, each with its own running maximum. The definitions here name these pieces
once, for any sub tile, head and key tile. The kernel writes the same pieces out 64 times over.
-/

@[expose] public section

set_option maxRecDepth 16384

noncomputable section

namespace Cert.KernelIdeal.Att

open Idealize.ShloMosaic Idealize.ShloMosaic.TcCoe Idealize.SL.Sem
open Cert.KernelIdeal.Gen

variable {F : FTy → Type} [FloatOps F] [Named F]

/-! ## Where a sub tile reads -/

/-- The number of the band's tile that sub tile `a` of grid column `s` computes. -/
def tileW (s a : Nat) : BitVec 32 := Scalar.addi (Scalar.muli (BitVec.ofNat 32 s) 8#32) (BitVec.ofNat 32 a)

/-- The first tile of keys it reads. -/
def firstW (s a : Nat) : BitVec 32 := Scalar.maxsi (Scalar.subi (tileW s a) 4#32) 0#32

/-- The first row of the bias table it reads. -/
def shiftW (s a : Nat) : BitVec 32 :=
  Scalar.subi 512#32 (Scalar.muli (Scalar.subi (tileW s a) (firstW s a)) 128#32)

/-- The first key of its key tile `j`. -/
def keyN (s a j : Nat) : Nat :=
  (Scalar.indexCast (Scalar.addi (Scalar.muli (firstW s a) 128#32) (BitVec.ofNat 32 (128 * j))) : BitVec 32).toNat

/-- The first row of the bias table of its key tile `j`. -/
def biasN (s a j : Nat) : Nat :=
  (Scalar.indexCast (Scalar.addi (shiftW s a) (BitVec.ofNat 32 (128 * j))) : BitVec 32).toNat

/-- The number of its key tile `j`. -/
def valN (s a j : Nat) : Nat := (Scalar.indexCast (Scalar.addi (firstW s a) (BitVec.ofNat 32 j)) : BitVec 32).toNat

theorem keyN_eq : ∀ s : Fin 4, ∀ a : Fin 8, ∀ j : Fin 5, keyN s.val a.val j.val = 128 * (8 * s.val + a.val - 4 + j.val) := by
  decide +kernel

theorem biasN_eq : ∀ s : Fin 4, ∀ a : Fin 8, ∀ j : Fin 5,
    biasN s.val a.val j.val = 512 - 128 * (8 * s.val + a.val - (8 * s.val + a.val - 4)) + 128 * j.val := by
  decide +kernel

theorem valN_eq : ∀ s : Fin 4, ∀ a : Fin 8, ∀ j : Fin 5, valN s.val a.val j.val = 8 * s.val + a.val - 4 + j.val := by
  decide +kernel

theorem q_inb (a h : Fin 8) : ∀ x, (![64 * h.val, 128 * a.val] : Fin 2 → Nat) x + S64x128.size x ≤ S512x1024.size x := by
  intro x; have := a.isLt; have := h.isLt
  fin_cases x
  · show 64 * h.val + 64 ≤ 512; omega
  · show 128 * a.val + 128 ≤ 1024; omega

theorem k_inb (s : Fin 4) (a h : Fin 8) (j : Fin 5) :
    ∀ x, (![0, keyN s.val a.val j.val, h.val / 2 * 128] : Fin 3 → Nat) x + S1x128x128.size x ≤ S1x4096x512.size x := by
  intro x; have := s.isLt; have := a.isLt; have := h.isLt; have := j.isLt
  fin_cases x
  · show 0 + 1 ≤ 1; omega
  · show keyN s.val a.val j.val + 128 ≤ 4096; rw [keyN_eq]; omega
  · show h.val / 2 * 128 + 128 ≤ 512; omega

theorem b_inb (s : Fin 4) (a h : Fin 8) (j : Fin 5) :
    ∀ x, (![h.val, biasN s.val a.val j.val, 0] : Fin 3 → Nat) x + S1x128x128.size x ≤ S8x1152x128.size x := by
  intro x; have := s.isLt; have := a.isLt; have := h.isLt; have := j.isLt
  fin_cases x
  · show h.val + 1 ≤ 8; omega
  · show biasN s.val a.val j.val + 128 ≤ 1152; rw [biasN_eq]; omega
  · show 0 + 128 ≤ 128; omega

theorem v_inb (s : Fin 4) (a h : Fin 8) (j : Fin 5) :
    ∀ x, (![0, valN s.val a.val j.val, 64 * h.val, 0] : Fin 4 → Nat) x + S1x1x64x128.size x ≤ S1x32x512x128.size x := by
  intro x; have := s.isLt; have := a.isLt; have := h.isLt; have := j.isLt
  fin_cases x
  · show 0 + 1 ≤ 1; omega
  · show valN s.val a.val j.val + 1 ≤ 32; rw [valN_eq]; omega
  · show 64 * h.val + 64 ≤ 512; omega
  · show 0 + 128 ≤ 128; omega

abbrev rq (a h : Fin 8) : Rect S512x1024 := Rect.unit (s := S512x1024) ![64 * h.val, 128 * a.val] S64x128.size (q_inb a h)

abbrev rk (s : Fin 4) (a h : Fin 8) (j : Fin 5) : Rect S1x4096x512 :=
  Rect.unit (s := S1x4096x512) ![0, keyN s.val a.val j.val, h.val / 2 * 128] S1x128x128.size (k_inb s a h j)

abbrev rb (s : Fin 4) (a h : Fin 8) (j : Fin 5) : Rect S8x1152x128 :=
  Rect.unit (s := S8x1152x128) ![h.val, biasN s.val a.val j.val, 0] S1x128x128.size (b_inb s a h j)

abbrev rv (s : Fin 4) (a h : Fin 8) (j : Fin 5) : Rect S1x32x512x128 :=
  Rect.unit (s := S1x32x512x128) ![0, valN s.val a.val j.val, 64 * h.val, 0] S1x1x64x128.size (v_inb s a h j)

/-! ## One head of one sub tile -/

/-- The head's queries over zeros: an even head's are the upper half. -/
def qEven (q : Vec F S64x128 .bf16) : FVec F S128x128 .bf16 := k0_pay28 q

/-- The same for an odd head, whose queries are the lower half. -/
def qOdd (q : Vec F S64x128 .bf16) : FVec F S128x128 .bf16 := k0_pay45 (k0_pay26 (F := F)) q

/-- The scores of one tile of keys, with the bias added. -/
def score (qm : FVec F S128x128 .bf16) (k : Vec F S1x128x128 .bf16) (b : Vec F S1x128x128 .f32) : FVec F S128x128 .f32 :=
  addf (matmul dot_S128x128_S128x128_S128x128_1_0_0_1_n_n none (shapeCast S128x128 k shapeCasts_S1x128x128_S128x128) qm
      (constant S128x128 .f32 0x00000000#32))
    (shapeCast S128x128 b shapeCasts_S1x128x128_S128x128)

/-- The greatest score of each row within the tile. -/
def tileMax (sc : FVec F S128x128 .f32) : FVec F S1x128 .f32 :=
  shapeCast S1x128 (multiReduction .maximumf [0] S128 sc 0xFF800000#32 reduces_S128x128_S128 (.inl rfl) rfl) shapeCasts_S128_S1x128

/-- The tile's weighted values, over the tile's sum of weights. -/
def tileOut (sc : FVec F S128x128 .f32) (m : FVec F S1x128 .f32) (v : Vec F S1x1x64x128 .bf16) : FVec F S128x128 .f32 :=
  matmul dot_S128x128_S128x128_S128x128_1_0_0_1_n_n none
    (concatenate S128x128 0 [⟨S64x128, shapeCast S64x128 v shapeCasts_S1x1x64x128_S64x128⟩, ⟨S64x128, k0_pay27 (F := F)⟩]
      concatenates_S64x128_S64x128_S128x128_d0)
    (truncf .bf16 (exp2 (subf sc (broadcastTo S128x128 m broadcasts_S1x128_S128x128))) bitsLt_bf16_f32)
    (constant S128x128 .f32 0x00000000#32)

/-- One tile's share of the head: its weighted values, rescaled from its own maximum to the common one. -/
def share (mj m : FVec F S1x128 .f32) (o : FVec F S128x128 .f32) : FVec F S128x128 .f32 :=
  mulf (broadcastTo S128x128 (exp2 (subf mj m)) broadcasts_S1x128_S128x128) o

/-- The greatest of the five maxima. -/
def maxOf (m0 m1 m2 m3 m4 : FVec F S1x128 .f32) : FVec F S1x128 .f32 :=
  maximumf (maximumf (maximumf (maximumf m0 m1) m2) m3) m4

/-- The five shares added up. -/
def accOf (m0 m1 m2 m3 m4 : FVec F S1x128 .f32) (o0 o1 o2 o3 o4 : FVec F S128x128 .f32) : FVec F S128x128 .f32 :=
  addf (addf (addf (addf (share m0 (maxOf m0 m1 m2 m3 m4) o0) (share m1 (maxOf m0 m1 m2 m3 m4) o1))
    (share m2 (maxOf m0 m1 m2 m3 m4) o2)) (share m3 (maxOf m0 m1 m2 m3 m4) o3)) (share m4 (maxOf m0 m1 m2 m3 m4) o4)

/-- The head's output: the values' sum over the weights' sum. -/
def headOf (sc0 sc1 sc2 sc3 sc4 : FVec F S128x128 .f32) (v0 v1 v2 v3 v4 : Vec F S1x1x64x128 .bf16) : FVec F S64x128 .f32 :=
  k0_pay44 (accOf (tileMax sc0) (tileMax sc1) (tileMax sc2) (tileMax sc3) (tileMax sc4)
    (tileOut sc0 (tileMax sc0) v0) (tileOut sc1 (tileMax sc1) v1) (tileOut sc2 (tileMax sc2) v2)
    (tileOut sc3 (tileMax sc3) v3) (tileOut sc4 (tileMax sc4) v4))

/-- Key tile `j`'s scores. -/
def scoreAt (s : Fin 4) (x1 : Vec F S1x4096x512 .bf16) (B : Vec F S8x1152x128 .f32) (a h : Fin 8) (qm : FVec F S128x128 .bf16)
    (j : Fin 5) : FVec F S128x128 .f32 :=
  score qm (View.ld x1 (rk s a h j)) (View.ld B (rb s a h j))

/-- Head `h` of sub tile `a`, for given padded queries. -/
def headAt (s : Fin 4) (x1 : Vec F S1x4096x512 .bf16) (x2 : Vec F S1x32x512x128 .bf16) (B : Vec F S8x1152x128 .f32)
    (a h : Fin 8) (qm : FVec F S128x128 .bf16) : FVec F S64x128 .f32 :=
  headOf (scoreAt s x1 B a h qm 0) (scoreAt s x1 B a h qm 1) (scoreAt s x1 B a h qm 2) (scoreAt s x1 B a h qm 3)
    (scoreAt s x1 B a h qm 4)
    (View.ld x2 (rv s a h 0)) (View.ld x2 (rv s a h 1)) (View.ld x2 (rv s a h 2)) (View.ld x2 (rv s a h 3)) (View.ld x2 (rv s a h 4))

/-- An even head. -/
def headE (s : Fin 4) (x0 : Vec F S512x1024 .bf16) (x1 : Vec F S1x4096x512 .bf16) (x2 : Vec F S1x32x512x128 .bf16)
    (B : Vec F S8x1152x128 .f32) (a h : Fin 8) : FVec F S64x128 .f32 :=
  headAt s x1 x2 B a h (qEven (View.ld x0 (rq a h)))

/-- An odd head. -/
def headO (s : Fin 4) (x0 : Vec F S512x1024 .bf16) (x1 : Vec F S1x4096x512 .bf16) (x2 : Vec F S1x32x512x128 .bf16)
    (B : Vec F S8x1152x128 .f32) (a h : Fin 8) : FVec F S64x128 .f32 :=
  headAt s x1 x2 B a h (qOdd (View.ld x0 (rq a h)))

/-- The eight heads side by side, as rows. -/
def joinOf (h0 h1 h2 h3 h4 h5 h6 h7 : FVec F S64x128 .f32) : FVec F S1x128x512 .bf16 :=
  shapeCast S1x128x512 (truncf .bf16 (transpose S128x512 [1, 0]
    (concatenate S512x128 0 [⟨S64x128, h0⟩, ⟨S64x128, h1⟩, ⟨S64x128, h2⟩, ⟨S64x128, h3⟩, ⟨S64x128, h4⟩, ⟨S64x128, h5⟩,
        ⟨S64x128, h6⟩, ⟨S64x128, h7⟩]
      concatenates_S64x128_S64x128_S64x128_S64x128_S64x128_S64x128_S64x128_S64x128_S512x128_d0)
    transposes_S512x128_p1_0_S128x512) bitsLt_bf16_f32) shapeCasts_S128x512_S1x128x512

/-- Sub tile `a`. -/
def subAt (s : Fin 4) (x0 : Vec F S512x1024 .bf16) (x1 : Vec F S1x4096x512 .bf16) (x2 : Vec F S1x32x512x128 .bf16)
    (B : Vec F S8x1152x128 .f32) (a : Fin 8) : FVec F S1x128x512 .bf16 :=
  joinOf (headE s x0 x1 x2 B a 0) (headO s x0 x1 x2 B a 1) (headE s x0 x1 x2 B a 2) (headO s x0 x1 x2 B a 3)
    (headE s x0 x1 x2 B a 4) (headO s x0 x1 x2 B a 5) (headE s x0 x1 x2 B a 6) (headO s x0 x1 x2 B a 7)

theorem o_inb (a : Fin 8) : ∀ x, (![0, 128 * a.val, 0] : Fin 3 → Nat) x + S1x128x512.size x ≤ S1x1024x512.size x := by
  intro x; have := a.isLt
  fin_cases x
  · show 0 + 1 ≤ 1; omega
  · show 128 * a.val + 128 ≤ 1024; omega
  · show 0 + 512 ≤ 512; omega

abbrev ro (a : Fin 8) : Rect S1x1024x512 := Rect.unit (s := S1x1024x512) ![0, 128 * a.val, 0] S1x128x512.size (o_inb a)

/-- The pieces a grid point writes to its block of the output, the last first. -/
def outPieces (p : Fin 8 → FVec F S1x128x512 .bf16) : List (View.Piece (Elt F) S1x1024x512 .bf16) :=
  [⟨ro 7, p 7⟩, ⟨ro 6, p 6⟩, ⟨ro 5, p 5⟩, ⟨ro 4, p 4⟩, ⟨ro 3, p 3⟩, ⟨ro 2, p 2⟩, ⟨ro 1, p 1⟩, ⟨ro 0, p 0⟩]

theorem outCover (p : Fin 8 → FVec F S1x128x512 .bf16) (y : S1x1024x512.Idx) : ∃ pc ∈ outPieces p, y ∈ pc.1.set :=
  View.cover_of_tiled (outPieces p) S1x128x512.size (by rfl) y

/-- A grid point's block of the output. -/
def outBlk (s : Fin 4) (x0 : Vec F S512x1024 .bf16) (x1 : Vec F S1x4096x512 .bf16) (x2 : Vec F S1x32x512x128 .bf16)
    (B : Vec F S8x1152x128 .f32) : Vec F S1x1024x512 .bf16 :=
  View.canon (outPieces (subAt s x0 x1 x2 B))

/-! ## The bias table -/

theorem t_inb (h : Fin 8) : ∀ x, (![0, h.val, 0] : Fin 3 → Nat) x + S1x1x1024.size x ≤ S1x8x1024.size x := by
  intro x; have := h.isLt
  fin_cases x
  · show 0 + 1 ≤ 1; omega
  · show h.val + 1 ≤ 8; omega
  · show 0 + 1024 ≤ 1024; omega

theorem tin_inb (h : Fin 8) : ∀ x, (![h.val, 0, 0] : Fin 3 → Nat) x + S1x640x128.size x ≤ S8x1152x128.size x := by
  intro x; have := h.isLt
  fin_cases x
  · show h.val + 1 ≤ 8; omega
  · show 0 + 640 ≤ 1152; omega
  · show 0 + 128 ≤ 128; omega

theorem tout_inb (h : Fin 8) : ∀ x, (![h.val, 640, 0] : Fin 3 → Nat) x + S1x512x128.size x ≤ S8x1152x128.size x := by
  intro x; have := h.isLt
  fin_cases x
  · show h.val + 1 ≤ 8; omega
  · show 640 + 512 ≤ 1152; omega
  · show 0 + 128 ≤ 128; omega

abbrev rt (h : Fin 8) : Rect S1x8x1024 := Rect.unit (s := S1x8x1024) ![0, h.val, 0] S1x1x1024.size (t_inb h)
abbrev rin (h : Fin 8) : Rect S8x1152x128 := Rect.unit (s := S8x1152x128) ![h.val, 0, 0] S1x640x128.size (tin_inb h)
abbrev rout (h : Fin 8) : Rect S8x1152x128 := Rect.unit (s := S8x1152x128) ![h.val, 640, 0] S1x512x128.size (tout_inb h)

/-- The pieces of the bias table, the last written first: a head's rows inside the band's reach and its masked rows. -/
def tablePieces (x3 : Vec F S1x8x1024 .f32) : List (View.Piece (Elt F) S8x1152x128 .f32) :=
  [⟨rout 7, k0_pay6⟩, ⟨rin 7, k0_pay5 (View.ld x3 (rt 7))⟩, ⟨rout 6, k0_pay6⟩, ⟨rin 6, k0_pay5 (View.ld x3 (rt 6))⟩,
   ⟨rout 5, k0_pay6⟩, ⟨rin 5, k0_pay5 (View.ld x3 (rt 5))⟩, ⟨rout 4, k0_pay6⟩, ⟨rin 4, k0_pay5 (View.ld x3 (rt 4))⟩,
   ⟨rout 3, k0_pay6⟩, ⟨rin 3, k0_pay5 (View.ld x3 (rt 3))⟩, ⟨rout 2, k0_pay6⟩, ⟨rin 2, k0_pay5 (View.ld x3 (rt 2))⟩,
   ⟨rout 1, k0_pay6⟩, ⟨rin 1, k0_pay5 (View.ld x3 (rt 1))⟩, ⟨rout 0, k0_pay6⟩, ⟨rin 0, k0_pay5 (View.ld x3 (rt 0))⟩]

theorem mem_rin (h : Fin 8) (y : S8x1152x128.Idx) (h0 : (y 0).val = h.val) (h1 : (y 1).val < 640) : y ∈ (rin h).set := by
  have h2 : (y 2).val < 128 := (y 2).isLt
  rw [Rect.mem_set_unit]
  intro x; fin_cases x
  · show h.val ≤ (y 0).val ∧ (y 0).val < h.val + 1; omega
  · show 0 ≤ (y 1).val ∧ (y 1).val < 0 + 640; omega
  · show 0 ≤ (y 2).val ∧ (y 2).val < 0 + 128; omega

theorem mem_rout (h : Fin 8) (y : S8x1152x128.Idx) (h0 : (y 0).val = h.val) (h1 : 640 ≤ (y 1).val) : y ∈ (rout h).set := by
  have h2 : (y 2).val < 128 := (y 2).isLt
  have h3 : (y 1).val < 1152 := (y 1).isLt
  rw [Rect.mem_set_unit]
  intro x; fin_cases x
  · show h.val ≤ (y 0).val ∧ (y 0).val < h.val + 1; omega
  · show 640 ≤ (y 1).val ∧ (y 1).val < 640 + 512; omega
  · show 0 ≤ (y 2).val ∧ (y 2).val < 0 + 128; omega

theorem mem_tablePieces (x3 : Vec F S1x8x1024 .f32) : ∀ h : Fin 8,
    (⟨rin h, k0_pay5 (View.ld x3 (rt h))⟩ : View.Piece (Elt F) S8x1152x128 .f32) ∈ tablePieces x3 ∧
    (⟨rout h, k0_pay6⟩ : View.Piece (Elt F) S8x1152x128 .f32) ∈ tablePieces x3 := by
  intro h
  unfold tablePieces
  fin_cases h <;> constructor <;> simp only [List.mem_cons] <;> tauto

theorem tableCover (x3 : Vec F S1x8x1024 .f32) (y : S8x1152x128.Idx) : ∃ pc ∈ tablePieces x3, y ∈ pc.1.set := by
  by_cases hy : (y 1).val < 640
  · exact ⟨_, (mem_tablePieces x3 (y 0)).1, mem_rin (y 0) y rfl hy⟩
  · exact ⟨_, (mem_tablePieces x3 (y 0)).2, mem_rout (y 0) y rfl (by omega)⟩

/-- The bias table the first grid point builds. -/
def table (x3 : Vec F S1x8x1024 .f32) : Vec F S8x1152x128 .f32 := View.canon (tablePieces x3)

end Cert.KernelIdeal.Att
-- ==== Proof.Att.Run.lean ====
module

public import proofs.«01_k».proof.Proof.Att.Defs

/-!
# The run of one grid point of the band attention

The first grid point builds the bias table; every grid point then reads it. So the first part of the body is run
twice, once each way, up to the point where the two ways meet, and the rest of the body once.
-/

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The kernel's test for the first grid point. -/
abbrev firstPoint (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = (1#1 : BitVec 1)

/-- The values the first part of the body hands on. -/
abbrev Part6 (F : FTy → Type) : Type :=
  Σ' (_ : BitVec 32) (_ : FVec F S64x128 .bf16) (_ : FVec F S64x128 .bf16) (_ : BitVec 32) (_ : BitVec 32) (_ : BitVec 32)
    (_ : FVec F S128x128 .bf16) (_ : FVec F S1x128 .f32), FVec F S128x128 .f32

/-- The first part of the body after the two ways meet. -/
def meet (i : grid0.Coords) (arg2 : Memref sig .tc .vmem S512x1024 .bf16) (arg3 : Memref sig .tc .vmem S1x4096x512 .bf16)
    (arg7 : Memref sig .tc .vmem S8x1152x128 .f32) {Λ : Labels} : Prog (TpuEff nD τ sig (Elt F) Λ .tc) (Part6 F) := do
  let v17 : Vec F S64x128 .bf16 ← Prog.lift (.load arg2 (Rect.unit (s := S512x1024) ![0, 0] S64x128.size inb_S512x1024_S64x128_0_0).toLoadRect (View.loadsAt_vmem h_S64x128))
  let v22 : Vec F S1x128x128 .bf16 ← Prog.lift (.load arg3 (Rect.unit (s := S1x4096x512) (k0_off1 i 0#32 0#32) S1x128x128.size (k0_off1_inb i 0 0)).toLoadRect (View.loadsAt_vmem h_S1x128x128))
  let v27 : Vec F S1x128x128 .f32 ← Prog.lift (.load arg7 (Rect.unit (s := S8x1152x128) (k0_off2 i 0#32 0#32) S1x128x128.size (k0_off2_inb i 0 0)).toLoadRect (View.loadsAt_vmem h_S1x128x128))
  pure ⟨BitVec.ofNat 32 (i 1).val, k0_pay26, k0_pay27, firstW (i 1).val 0, Scalar.muli (firstW (i 1).val 0) 128#32, shiftW (i 1).val 0,
    k0_pay28 v17, k0_pay30 v17 v22 v27, k0_pay31 v17 v22 v27⟩

/-- The values handed on, from the blocks' contents and the table's. -/
def meetVal (i : grid0.Coords) (x0 : Vec F S512x1024 .bf16) (x1 : Vec F S1x4096x512 .bf16) (B : Vec F S8x1152x128 .f32) : Part6 F :=
  let v17 := View.ld x0 (Rect.unit (s := S512x1024) ![0, 0] S64x128.size inb_S512x1024_S64x128_0_0)
  let v22 := View.ld x1 (Rect.unit (s := S1x4096x512) (k0_off1 i 0#32 0#32) S1x128x128.size (k0_off1_inb i 0 0))
  let v27 := View.ld B (Rect.unit (s := S8x1152x128) (k0_off2 i 0#32 0#32) S1x128x128.size (k0_off2_inb i 0 0))
  ⟨BitVec.ofNat 32 (i 1).val, k0_pay26, k0_pay27, firstW (i 1).val 0, Scalar.muli (firstW (i 1).val 0) 128#32, shiftW (i 1).val 0,
    k0_pay28 v17, k0_pay30 v17 v22 v27, k0_pay31 v17 v22 v27⟩

theorem meet_run {Λ : Labels} (D : Defs nD τ sig (Elt F) Λ) (c : Dev nD) (i : grid0.Coords) (arg2 : Memref sig .tc .vmem S512x1024 .bf16) (arg3 : Memref sig .tc .vmem S1x4096x512 .bf16)
    (arg5 : Memref sig .tc .vmem S1x8x1024 .f32) (arg7 : Memref sig .tc .vmem S8x1152x128 .f32)
    (x0 : Vec F S512x1024 .bf16) (x1 : Vec F S1x4096x512 .bf16) (x3 : Vec F S1x8x1024 .f32) (B : Vec F S8x1152x128 .f32)
    (E : Set ℕ) (K : Part6 F → sProp 𝕄) :
    iprop(owns (c : Thread nD τ) arg2 fullShare x0 ∗ owns (c : Thread nD τ) arg3 fullShare x1 ∗ owns (c : Thread nD τ) arg5 fullShare x3 ∗ owns (c : Thread nD τ) arg7 fullShare B ∗ (iprop(owns (c : Thread nD τ) arg2 fullShare x0 ∗ owns (c : Thread nD τ) arg3 fullShare x1 ∗ owns (c : Thread nD τ) arg5 fullShare x3 ∗ owns (c : Thread nD τ) arg7 fullShare B) -∗ K (meetVal i x0 x1 B)))
     ⊢ wp frame (wpE D Variants.none c none) E (meet i arg2 arg3 arg7) K := by
  unfold meet meetVal owns
  dsimp only
  iintro ⟨⟨%f0, %hf0, H0⟩, ⟨%f1, %hf1, H1⟩, ⟨%f3, %hf3, H3⟩, ⟨%f7, %hf7, H7⟩, Hk⟩
  subst hf0 hf1 hf3 hf7
  sl_exec
  sl_step
  simp only [View.readAt_eq_ld]
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists f7; isplitr; · ipureintro; rfl
  iexact H7

theorem part6_first (c : Dev nD) (i : grid0.Coords) (arg2 : Memref sig .tc .vmem S512x1024 .bf16) (harg2 : arg2.IsWhole) (arg3 : Memref sig .tc .vmem S1x4096x512 .bf16) (harg3 : arg3.IsWhole) (arg4 : Memref sig .tc .vmem S1x32x512x128 .bf16) (harg4 : arg4.IsWhole) (arg5 : Memref sig .tc .vmem S1x8x1024 .f32) (harg5 : arg5.IsWhole) (arg6 : Memref sig .tc .vmem S1x1024x512 .bf16) (harg6 : arg6.IsWhole) (arg7 : Memref sig .tc .vmem S8x1152x128 .f32) (harg7 : arg7.IsWhole)
    (hc0 : firstPoint i)
    (x0 : Vec F S512x1024 .bf16) (x1 : Vec F S1x4096x512 .bf16) (x3 : Vec F S1x8x1024 .f32)
    (E : Set ℕ) (K : Part6 F → sProp 𝕄) :
    iprop(owns (c : Thread nD τ) arg2 fullShare x0 ∗ owns (c : Thread nD τ) arg3 fullShare x1 ∗ owns (c : Thread nD τ) arg5 fullShare x3 ∗ (∃ d, owns (c : Thread nD τ) arg7 fullShare d) ∗ (iprop(owns (c : Thread nD τ) arg2 fullShare x0 ∗ owns (c : Thread nD τ) arg3 fullShare x1 ∗ owns (c : Thread nD τ) arg5 fullShare x3 ∗ owns (c : Thread nD τ) arg7 fullShare (table x3)) -∗ K (meetVal i x0 x1 (table x3))))
     ⊢ wp frame (wpE (defs₀ (F := F)) Variants.none c none) E (k0_part6 i arg2 harg2 arg3 harg3 arg4 harg4 arg5 harg5 arg6 harg6 arg7 harg7) K := by
  rw [k0_part6_eq_skeleton]; unfold k0_part6_skel
  lift_lets
  extract_lets a0 a1 v0 v1 v2 v3 v4 v7 v8 v9 v10 v11 v12 v13 v14 v15 v16 jp
  obtain ⟨J, hJ⟩ : ∃ J, J = jp := ⟨_, rfl⟩
  rw [← hJ]
  rw [dif_pos hc0]
  unfold owns
  iintro ⟨⟨%f0, %hf0, H0⟩, ⟨%f1, %hf1, H1⟩, ⟨%f3, %hf3, H3⟩, ⟨%ds0, %fs0, -, HS0⟩, Hk⟩
  subst hf0 hf1 hf3
  simp only [k0_part1_eq_skeleton, k0_part2_eq_skeleton, k0_part3_eq_skeleton, k0_part4_eq_skeleton, k0_part5_eq_skeleton]
  sl_exec
  have hm : J PUnit.unit = meet i arg2 arg3 arg7 := by rw [hJ]; rfl
  rw [hm]
  iapply (meet_run defs₀ c i arg2 arg3 arg5 arg7 (arg2.view.read (Elt F) f0) (arg3.view.read (Elt F) f1) (arg5.view.read (Elt F) f3)
    (table (arg5.view.read (Elt F) f3)) E K)
  unfold owns
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  isplitl [HS0]
  · iexists _; isplitr
    swap
    · iexact HS0
    ipureintro
    exact View.read_writes_eq_canon _ _ _ (tableCover (arg5.view.read (Elt F) f3))
  iexact Hk

theorem part6_later (c : Dev nD) (i : grid0.Coords) (arg2 : Memref sig .tc .vmem S512x1024 .bf16) (harg2 : arg2.IsWhole) (arg3 : Memref sig .tc .vmem S1x4096x512 .bf16) (harg3 : arg3.IsWhole) (arg4 : Memref sig .tc .vmem S1x32x512x128 .bf16) (harg4 : arg4.IsWhole) (arg5 : Memref sig .tc .vmem S1x8x1024 .f32) (harg5 : arg5.IsWhole) (arg6 : Memref sig .tc .vmem S1x1024x512 .bf16) (harg6 : arg6.IsWhole) (arg7 : Memref sig .tc .vmem S8x1152x128 .f32) (harg7 : arg7.IsWhole)
    (hc0 : ¬ firstPoint i)
    (x0 : Vec F S512x1024 .bf16) (x1 : Vec F S1x4096x512 .bf16) (x3 : Vec F S1x8x1024 .f32) (B : Vec F S8x1152x128 .f32)
    (E : Set ℕ) (K : Part6 F → sProp 𝕄) :
    iprop(owns (c : Thread nD τ) arg2 fullShare x0 ∗ owns (c : Thread nD τ) arg3 fullShare x1 ∗ owns (c : Thread nD τ) arg5 fullShare x3 ∗ owns (c : Thread nD τ) arg7 fullShare B ∗ (iprop(owns (c : Thread nD τ) arg2 fullShare x0 ∗ owns (c : Thread nD τ) arg3 fullShare x1 ∗ owns (c : Thread nD τ) arg5 fullShare x3 ∗ owns (c : Thread nD τ) arg7 fullShare B) -∗ K (meetVal i x0 x1 B)))
     ⊢ wp frame (wpE (defs₀ (F := F)) Variants.none c none) E (k0_part6 i arg2 harg2 arg3 harg3 arg4 harg4 arg5 harg5 arg6 harg6 arg7 harg7) K := by
  rw [k0_part6_eq_skeleton]; unfold k0_part6_skel
  lift_lets
  extract_lets a0 a1 v0 v1 v2 v3 v4 v7 v8 v9 v10 v11 v12 v13 v14 v15 v16 jp
  rw [dif_neg hc0]
  have hm : jp PUnit.unit = meet i arg2 arg3 arg7 := rfl
  exact meet_run defs₀ c i arg2 arg3 arg5 arg7 x0 x1 x3 B E K

end Cert.KernelIdeal.Att
-- ==== Proof.Att.Body.lean ====
module

public import proofs.«01_k».proof.Proof.Att.Run

/-!
# The run of the rest of a grid point

From the point where the two ways of the body's first part meet, all grid points run the same statements.
-/

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- What the first part of the body does, given a table held as `T`: it leaves the table's contents `B`. -/
abbrev Part6Spec {Λ : Labels} (D : Defs nD τ sig (Elt F) Λ) (P : Prog (TpuEff nD τ sig (Elt F) Λ .tc) (Part6 F)) (c : Dev nD)
    (i : grid0.Coords) (arg2 : Memref sig .tc .vmem S512x1024 .bf16) (arg3 : Memref sig .tc .vmem S1x4096x512 .bf16)
    (arg5 : Memref sig .tc .vmem S1x8x1024 .f32) (arg7 : Memref sig .tc .vmem S8x1152x128 .f32)
    (x0 : Vec F S512x1024 .bf16) (x1 : Vec F S1x4096x512 .bf16) (x3 : Vec F S1x8x1024 .f32) (B : Vec F S8x1152x128 .f32)
    (T : sProp 𝕄) (E : Set ℕ) : Prop :=
  ∀ K : Part6 F → sProp 𝕄,
    iprop(owns (c : Thread nD τ) arg2 fullShare x0 ∗ owns (c : Thread nD τ) arg3 fullShare x1 ∗ owns (c : Thread nD τ) arg5 fullShare x3 ∗ T ∗ (iprop(owns (c : Thread nD τ) arg2 fullShare x0 ∗ owns (c : Thread nD τ) arg3 fullShare x1 ∗ owns (c : Thread nD τ) arg5 fullShare x3 ∗ owns (c : Thread nD τ) arg7 fullShare B) -∗ K (meetVal i x0 x1 B)))
     ⊢ wp frame (wpE D Variants.none c none) E P K

/-- What the whole body does, given a table held as `T`: it leaves the table's contents `B` and the block made from it. -/
abbrev BodySpec {Λ : Labels} (D : Defs nD τ sig (Elt F) Λ) (P : Prog (TpuEff nD τ sig (Elt F) Λ .tc) PUnit) (c : Dev nD)
    (i : grid0.Coords) (arg2 : Memref sig .tc .vmem S512x1024 .bf16) (arg3 : Memref sig .tc .vmem S1x4096x512 .bf16)
    (arg4 : Memref sig .tc .vmem S1x32x512x128 .bf16) (arg5 : Memref sig .tc .vmem S1x8x1024 .f32)
    (arg6 : Memref sig .tc .vmem S1x1024x512 .bf16) (arg7 : Memref sig .tc .vmem S8x1152x128 .f32)
    (x0 : Vec F S512x1024 .bf16) (x1 : Vec F S1x4096x512 .bf16) (x2 : Vec F S1x32x512x128 .bf16) (x3 : Vec F S1x8x1024 .f32)
    (B : Vec F S8x1152x128 .f32) (T : sProp 𝕄) (E : Set ℕ) : Prop :=
  ∀ K : PUnit → sProp 𝕄,
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ T
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlk (i 1) x0 x1 x2 B) ∗ owns (c : Thread nD τ) arg7 fullShare B) -∗ K ⟨⟩))
     ⊢ wp frame (wpE D Variants.none c none) E P K

set_option maxHeartbeats 0 in
theorem body_run (c : Dev nD) (i : grid0.Coords) (arg2 : Memref sig .tc .vmem S512x1024 .bf16) (harg2 : arg2.IsWhole) (arg3 : Memref sig .tc .vmem S1x4096x512 .bf16) (harg3 : arg3.IsWhole) (arg4 : Memref sig .tc .vmem S1x32x512x128 .bf16) (harg4 : arg4.IsWhole) (arg5 : Memref sig .tc .vmem S1x8x1024 .f32) (harg5 : arg5.IsWhole) (arg6 : Memref sig .tc .vmem S1x1024x512 .bf16) (harg6 : arg6.IsWhole) (arg7 : Memref sig .tc .vmem S8x1152x128 .f32) (harg7 : arg7.IsWhole)
    (x0 : Vec F S512x1024 .bf16) (x1 : Vec F S1x4096x512 .bf16) (x2 : Vec F S1x32x512x128 .bf16) (x3 : Vec F S1x8x1024 .f32)
    (B : Vec F S8x1152x128 .f32) (T : sProp 𝕄) (E : Set ℕ)
    (hT : Part6Spec defs₀ (k0_part6 i arg2 harg2 arg3 harg3 arg4 harg4 arg5 harg5 arg6 harg6 arg7 harg7) c i arg2 arg3 arg5 arg7 x0 x1 x3 B T E) :
    BodySpec (F := F) defs₀ (cc0_band_attn i arg2 harg2 arg3 harg3 arg4 harg4 arg5 harg5 arg6 harg6 arg7 harg7) c i arg2 arg3 arg4 arg5 arg6 arg7 x0 x1 x2 x3 B T E := by
  intro K
  simp only [cc0_band_attn_eq_skeleton]; unfold cc0_band_attn_skel
  rw [wp_bind, k0_part235_eq_skeleton]; unfold k0_part235_skel
  rw [wp_bind]
  iintro ⟨H0, H1, H2, H3, H6, HT, Hk⟩
  iapply (hT _)
  isplitl [H0]
  · iexact H0
  isplitl [H1]
  · iexact H1
  isplitl [H3]
  · iexact H3
  isplitl [HT]
  · iexact HT
  iintro ⟨H0, H1, H3, H7⟩
  unfold meetVal
  dsimp only
  unfold owns
  icases H0 with ⟨%f0, %hf0, H0⟩
  icases H1 with ⟨%f1, %hf1, H1⟩
  icases H2 with ⟨%f2, %hf2, H2⟩
  icases H3 with ⟨%f3, %hf3, H3⟩
  icases H6 with ⟨%d6, %f6, -, H6⟩
  icases H7 with ⟨%f7, %hf7, H7⟩
  subst hf0 hf1 hf2 hf3 hf7
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap
    · iexact H6
    ipureintro
    exact View.read_writes_eq_canon _ _ _ (outCover (subAt (i 1) (arg2.view.read (Elt F) f0) (arg3.view.read (Elt F) f1)
      (arg4.view.read (Elt F) f2) (arg7.view.read (Elt F) f7)))
  iexists f7; isplitr; · ipureintro; rfl
  iexact H7

end Cert.KernelIdeal.Att
-- ==== Proof.Att.Frame.lean ====
module

public import proofs.«01_k».proof.Proof.Att.Body
public import Idealize.ShloMosaic.Lib.Claim

/-!
# The run of the band attention over its grid

Between grid points the scratch buffer holds the bias table of the call's rows of relative biases; before the
first point it holds anything.
-/

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point of the grid is the one at which the table is built. -/
theorem firstPoint_iff : ∀ t : Fin cfg0.N, firstPoint (grid0.coords t) ↔ t.val = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [firstPoint, e0, e1]
    word_cmp
   : ∀ t : Fin grid0.N, firstPoint (grid0.coords t) ↔ t.val = 0)

/-- The first point. -/
def t0 : Fin cfg0.N := ⟨0, by rw [show cfg0.N = 16 from N_0]; decide⟩

/-- The relative biases' block is the same at every point. -/
theorem iblk3 (c : Dev nD) (t : Fin cfg0.N) : iblk m c 3 t = iblk m c 3 t0 := rfl

/-- The table the first point leaves. -/
def tab (c : Dev nD) : Vec F S8x1152x128 .f32 := table (iblk m c 3 t0)

abbrev ms0 (t : Fin cfg0.N) : Memref sig .tc .vmem S512x1024 .bf16 := win0_0.stage (cfg0.slots t 0)
abbrev ms1 (t : Fin cfg0.N) : Memref sig .tc .vmem S1x4096x512 .bf16 := win0_1.stage (cfg0.slots t 1)
abbrev ms2 (t : Fin cfg0.N) : Memref sig .tc .vmem S1x32x512x128 .bf16 := win0_2.stage (cfg0.slots t 2)
abbrev ms3 (t : Fin cfg0.N) : Memref sig .tc .vmem S1x8x1024 .f32 := win0_3.stage (cfg0.slots t 3)
abbrev ms4 (t : Fin cfg0.N) : Memref sig .tc .vmem S1x1024x512 .bf16 := win0_4.stage (cfg0.slots t 4)

/-- The scratch buffer that holds the table. -/
abbrev scM : Memref sig .tc .vmem S8x1152x128 .f32 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; rfl

/-- What a grid point leaves in its block of the output. -/
def outAt (c : Dev nD) (t : Fin cfg0.N) : Vec F S1x1024x512 .bf16 :=
  outBlk (grid0.coords t 1) (iblk m c 0 t) (iblk m c 1 t) (iblk m c 2 t) (tab m c)

/-- What holds between points: the table in the scratch buffer, once the first point is past. -/
def inv (c : Dev nD) (n : Nat) : sProp 𝕄 :=
  if n = 0 then Pipeline.ΦA spec0 c else iprop(owns (c : Thread nD τ) scM fullShare (tab m c) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- A grid point in the pipeline's terms, from the body's run, whatever the table's buffer held. -/
theorem step {Λ : Labels} (D : Defs nD τ sig (Elt F) Λ) (P : Prog (TpuEff nD τ sig (Elt F) Λ .tc) PUnit) (c : Dev nD)
    (i : grid0.Coords) (arg2 : Memref sig .tc .vmem S512x1024 .bf16) (arg3 : Memref sig .tc .vmem S1x4096x512 .bf16)
    (arg4 : Memref sig .tc .vmem S1x32x512x128 .bf16) (arg5 : Memref sig .tc .vmem S1x8x1024 .f32)
    (arg6 : Memref sig .tc .vmem S1x1024x512 .bf16)
    (x0 : Vec F S512x1024 .bf16) (x1 : Vec F S1x4096x512 .bf16) (x2 : Vec F S1x32x512x128 .bf16) (x3 : Vec F S1x8x1024 .f32)
    (B : Vec F S8x1152x128 .f32) (T : sProp 𝕄)
    (h : BodySpec D P c i arg2 arg3 arg4 arg5 arg6 scM x0 x1 x2 x3 B T Set.univ)
    (O : sProp 𝕄) {δ0 δ1 δ2 δ3 δ4 : Type} (f : δ4 → Vec F S1x1024x512 .bf16) :
    iprop(iprop(T ∗ (∃ r, prngReg c r)) ∗ O
      ∗ (∃ _ : δ0, owns (c : Thread nD τ) arg2 fullShare x0) ∗ (∃ _ : δ1, owns (c : Thread nD τ) arg3 fullShare x1)
      ∗ (∃ _ : δ2, owns (c : Thread nD τ) arg4 fullShare x2) ∗ (∃ _ : δ3, owns (c : Thread nD τ) arg5 fullShare x3)
      ∗ (∃ d, owns (c : Thread nD τ) arg6 fullShare (f d)))
    ⊢ wp frame (wpE D Variants.none c none) Set.univ P
      (fun _ => iprop(iprop(owns (c : Thread nD τ) scM fullShare B ∗ (∃ r, prngReg c r)) ∗ O
        ∗ owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare (outBlk (i 1) x0 x1 x2 B))) := by
  iintro ⟨⟨HS0, Hg⟩, Ho, ⟨%d0, H0⟩, ⟨%d1, H1⟩, ⟨%d2, H2⟩, ⟨%d3, H3⟩, ⟨%d4, H4⟩⟩
  iapply (h _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4,
    show (dats m 0 c).Φ t.castSucc = inv m c t.val from rfl,
    show (dats m 0 c).Φ t.succ = inv m c (t.val + 1) from rfl,
    show inv m c (t.val + 1) = iprop(owns (c : Thread nD τ) scM fullShare (tab m c) ∗ (∃ r, prngReg c r)) from if_neg (by omega)]
  by_cases h0 : t.val = 0
  · rw [show inv m c t.val = Pipeline.ΦA spec0 c from if_pos h0, PhiA_eq]
    exact step _ _ c (grid0.coords t) _ _ _ _ _ (iblk m c 0 t) (iblk m c 1 t) (iblk m c 2 t) (iblk m c 3 t) (tab m c) _
      (body_run c (grid0.coords t) _ _ _ _ _ _ _ _ _ _ _ _ _ _ _ _ _ _ _
        fun K => part6_first c (grid0.coords t) _ _ _ _ _ _ _ _ _ _ _ _ ((firstPoint_iff t).mpr h0) _ _ _ Set.univ K) _ _
  · rw [show inv m c t.val = iprop(owns (c : Thread nD τ) scM fullShare (tab m c) ∗ (∃ r, prngReg c r)) from if_neg h0]
    exact step _ _ c (grid0.coords t) _ _ _ _ _ (iblk m c 0 t) (iblk m c 1 t) (iblk m c 2 t) (iblk m c 3 t) (tab m c) _
      (body_run c (grid0.coords t) _ _ _ _ _ _ _ _ _ _ _ _ _ _ _ _ _ _ _
        fun K => part6_later c (grid0.coords t) _ _ _ _ _ _ _ _ _ _ _ _ (fun h => h0 ((firstPoint_iff t).mp h)) _ _ _ _ Set.univ K) _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_out (c : Dev nD) : (dats m 0 c).Φ (Fin.last cfg0.N) ⊢ Pipeline.ΦA spec0 c := by
  rw [show (dats m 0 c).Φ (Fin.last cfg0.N) = inv m c cfg0.N from rfl, show cfg0.N = 16 from N_0,
    show inv m c 16 = iprop(owns (c : Thread nD τ) scM fullShare (tab m c) ∗ (∃ r, prngReg c r)) from if_neg (by decide), PhiA_eq]
  iintro ⟨H, Hg⟩
  isplitl [H]
  · iexists _; iexact H
  iexact Hg

set_option backward.isDefEq.respectTransparency.types false in
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := inv_out m) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- Every run ends, the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Att
-- ==== Proof.Att.KernelFrame.lean ====
module

public import proofs.«01_k».proof.Proof.Att.Frame
public import proofs.«01_k».proof.Proof.Gen.Kernel.Frame
public import proofs.«01_k».proof.Defs
public import Idealize.ShloMosaic.PureOps.BitExact

@[expose] public section

set_option maxRecDepth 16384

noncomputable section
namespace Cert.KernelIdeal.Att

open Idealize.ShloMosaic Idealize.ShloMosaic.TcCoe Idealize.SL.Sem

/-- On bits a named literal is the literal. -/
instance litNamed : Named Bits := ⟨fun _ _ {φ} bits => Scalar.ofBits φ bits⟩

/-- The two programs' body tables are one: label by label they call the same function. -/
theorem tables_eq : Cert.Kernel.defs₀ (F := Bits) = Cert.KernelIdeal.defs₀ := by
  funext κ l a
  match κ with
  | .tc =>
    match l, a with
    | ⟨0, _⟩, (t, s) => rfl
    | ⟨n + 1, h⟩, _ => exact absurd h (Nat.not_lt.2 (Nat.le_add_left _ _))
  | .scScalar _ => rfl
  | .scVector _ _ => rfl

theorem defs_eq : Cert.Kernel.defs (F := Bits) = Cert.KernelIdeal.defs :=
  congrArg (Pipeline.defs Cert.KernelIdeal.pcfgs) tables_eq

theorem frame_kernel : Cert.quiescent_Kernel (hKernel := Cert.Kernel.Gen.facts) := fun m ρ _ => by
  rw [defs_eq]
  exact frame (F := Bits) m ρ

end Cert.KernelIdeal.Att
end
end
-- ==== Proof.Att.Softmax.lean ====
module

public import Idealize.ShloMosaic.PureOps.Ideal
public import Mathlib.Data.EReal.Operations
public import Mathlib.Data.EReal.Inv
public import Mathlib.Analysis.SpecialFunctions.Pow.Real

/-!
# The softmax, taken tile by tile and taken whole

Scores are real numbers or `⊥` (a masked key). A masked key weighs nothing; five tiles, each normalised by its own
maximum and rescaled to the common one, give the same weighted mean as one softmax over all keys.
-/

@[expose] public section

noncomputable section
namespace Cert.Softmax

open Idealize.ShloMosaic
open scoped BigOperators

/-- The weight of a score in base two. -/
def wt (x : EReal) : ℝ := (Ideal.exp2 x).toReal

/-- The weight of a score in base e. -/
def we (x : EReal) : ℝ := (Ideal.exp x).toReal

theorem wt_bot : wt ⊥ = 0 := by simp [wt]
theorem we_bot : we ⊥ = 0 := by simp [we]
theorem wt_coe (r : ℝ) : wt (r : EReal) = (2 : ℝ) ^ r := by
  show ((((2 : ℝ) ^ r : ℝ)) : EReal).toReal = _; simp
theorem we_coe (r : ℝ) : we (r : EReal) = Real.exp r := by
  show (((Real.exp r : ℝ)) : EReal).toReal = _; simp

/-- A base-two weight of a score divided by `log 2` is the base-e weight of the score. -/
theorem wt_div (x : ℝ) : wt ((x * (1 / Real.log 2) : ℝ) : EReal) = we (x : EReal) := by
  have h2 : Real.log 2 ≠ 0 := (Real.log_pos (by norm_num)).ne'
  rw [wt_coe, we_coe, Real.rpow_def_of_pos (by norm_num)]
  congr 1; field_simp

theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem bot_or_coe {x : EReal} (h : x ≠ ⊤) : x = ⊥ ∨ ∃ r : ℝ, x = r := by
  induction x using EReal.rec with
  | bot => exact .inl rfl
  | coe r => exact .inr ⟨r, rfl⟩
  | top => exact absurd rfl h

theorem wt_nonneg {x : EReal} (h : x ≠ ⊤) : 0 ≤ wt x := by
  rcases bot_or_coe h with rfl | ⟨r, rfl⟩
  · rw [wt_bot]
  · rw [wt_coe]; positivity

theorem we_nonneg {x : EReal} (h : x ≠ ⊤) : 0 ≤ we x := by
  rcases bot_or_coe h with rfl | ⟨r, rfl⟩
  · rw [we_bot]
  · rw [we_coe]; positivity

/-- One tile's weighted sum, rescaled from its own maximum `μ` to the common one `M`. -/
theorem tile {n : Nat} (sc v : Fin n → EReal) (hs : ∀ k, sc k ≠ ⊤) (μ : EReal) (hμ : Finset.univ.sup sc = μ) (M : ℝ) :
    Ideal.exp2 (μ - M) * ∑ k, v k * Ideal.exp2 (sc k - μ) = ∑ k, v k * ((wt (sc k) / (2 : ℝ) ^ M : ℝ) : EReal) := by
  have hle : ∀ k, sc k ≤ μ := fun k => hμ ▸ Finset.le_sup (Finset.mem_univ k)
  have hne : μ ≠ ⊤ := by
    rw [← hμ]; exact ((Finset.sup_lt_iff (bot_lt_top)).2 fun k _ => lt_top_iff_ne_top.2 (hs k)).ne
  rcases bot_or_coe hne with rfl | ⟨r, rfl⟩
  · have h0 : ∀ k, sc k = ⊥ := fun k => le_bot_iff.1 (hle k)
    simp [h0, wt_bot]
  · have e1 : Ideal.exp2 ((r : EReal) - M) = (((2 : ℝ) ^ (r - M) : ℝ) : EReal) := rfl
    rw [e1, mul_sum _ _ (by positivity)]
    refine Finset.sum_congr rfl fun k _ => ?_
    rw [mul_left_comm]
    congr 1
    rcases bot_or_coe (hs k) with h | ⟨s, h⟩
    · rw [h, wt_bot]; simp
    · have e2 : Ideal.exp2 (sc k - r) = (((2 : ℝ) ^ (s - r) : ℝ) : EReal) := by rw [h]; rfl
      rw [e2, h, wt_coe, ← EReal.coe_mul, ← Real.rpow_add (by norm_num), ← Real.rpow_sub (by norm_num)]
      congr 2; ring

/-- The weighted mean of `v` under weights `w`. -/
def mean {ι : Type} [Fintype ι] (v : ι → EReal) (w : ι → ℝ) : EReal := ∑ i, v i * ((w i / ∑ j, w j : ℝ) : EReal)

/-- A weighted sum over the sum of the weights, both scaled by one positive number, is the weighted mean. -/
theorem div_mean {ι : Type} [Fintype ι] (v : ι → EReal) (w : ι → ℝ) (hw : ∀ i, 0 ≤ w i) (hp : 0 < ∑ i, w i) (c : ℝ) (hc : 0 < c) :
    Ideal.div (∑ i, v i * ((w i / c : ℝ) : EReal)) (∑ i, ((w i / c : ℝ) : EReal)) = mean v w := by
  rw [← coe_sum, ← Finset.sum_div]
  have hq : 0 < (∑ i, w i) / c := div_pos hp hc
  have h0 : (((∑ i, w i) / c : ℝ) : EReal) ≠ 0 := by exact_mod_cast hq.ne'
  rw [Ideal.div, if_neg h0, ← EReal.coe_inv, mul_comm, mul_sum _ _ (inv_nonneg.2 hq.le)]
  refine Finset.sum_congr rfl fun i _ => ?_
  rw [mul_left_comm, ← EReal.coe_mul]
  congr 2
  field_simp

/-- The five tiles' shares over the five tiles' weights: one weighted mean over all the keys. -/
theorem tiles (sc v : Fin 5 → Fin 128 → EReal) (hs : ∀ j k, sc j k ≠ ⊤) (he : ∃ j k, sc j k ≠ ⊥)
    (m : Fin 5 → EReal) (hm : ∀ j, m j = Finset.univ.sup (sc j)) (M : EReal) (hM : M = max (max (max (max (m 0) (m 1)) (m 2)) (m 3)) (m 4))
    (N D : EReal)
    (hN : N = ∑ j, Ideal.exp2 (m j - M) * ∑ k, v j k * Ideal.exp2 (sc j k - m j))
    (hD : D = ∑ j, Ideal.exp2 (m j - M) * ∑ k, 1 * Ideal.exp2 (sc j k - m j)) :
    Ideal.div N D = mean (fun i : Fin 5 × Fin 128 => v i.1 i.2) (fun i => wt (sc i.1 i.2)) := by
  have hmt : ∀ j, m j ≠ ⊤ := fun j => by
    rw [hm]; exact ((Finset.sup_lt_iff (bot_lt_top)).2 fun k _ => lt_top_iff_ne_top.2 (hs j k)).ne
  have hle : ∀ j, m j ≤ M := by
    intro j; rw [hM]; fin_cases j <;> simp
  have hMt : M ≠ ⊤ := by
    rw [hM]; simp only [ne_eq, max_eq_top, not_or]; exact ⟨⟨⟨⟨hmt 0, hmt 1⟩, hmt 2⟩, hmt 3⟩, hmt 4⟩
  have hMb : M ≠ ⊥ := by
    obtain ⟨j, k, h⟩ := he
    intro hb
    exact h (le_bot_iff.1 (hb ▸ (Finset.le_sup (f := sc j) (Finset.mem_univ k)).trans ((hm j).symm.le.trans (hle j))))
  rcases bot_or_coe hMt with h | ⟨r, rfl⟩
  · exact absurd h hMb
  rw [hN, hD]
  have e1 : ∀ u : Fin 5 → Fin 128 → EReal, (∑ j, Ideal.exp2 (m j - r) * ∑ k, u j k * Ideal.exp2 (sc j k - m j))
      = ∑ i : Fin 5 × Fin 128, u i.1 i.2 * ((wt (sc i.1 i.2) / (2 : ℝ) ^ r : ℝ) : EReal) := fun u => by
    rw [Fintype.sum_prod_type]
    exact Finset.sum_congr rfl fun j _ => tile (sc j) (u j) (hs j) (m j) (hm j).symm r
  rw [e1 v, e1 fun _ _ => 1]
  simp only [one_mul]
  refine div_mean _ _ (fun i => wt_nonneg (hs _ _)) ?_ _ (by positivity)
  obtain ⟨j, k, h⟩ := he
  refine Finset.sum_pos' (fun i _ => wt_nonneg (hs _ _)) ⟨(j, k), Finset.mem_univ _, ?_⟩
  rcases bot_or_coe (hs j k) with h' | ⟨s, h'⟩
  · exact absurd h' h
  · show 0 < wt (sc j k)
    rw [h', wt_coe]; positivity

/-- One softmax over all the keys, the values weighted by it. -/
theorem whole {n : Nat} (r v : Fin n → EReal) (hs : ∀ k, r k ≠ ⊤) (he : ∃ k, r k ≠ ⊥) (M : EReal) (hM : M = Finset.univ.sup r) :
    (∑ k, v k * Ideal.div (Ideal.exp (r k - M)) (∑ k, Ideal.exp (r k - M))) = mean v (fun k => we (r k)) := by
  have hMt : M ≠ ⊤ := by
    rw [hM]; exact ((Finset.sup_lt_iff (bot_lt_top)).2 fun k _ => lt_top_iff_ne_top.2 (hs k)).ne
  have hMb : M ≠ ⊥ := by
    obtain ⟨k, h⟩ := he
    intro hb
    exact h (le_bot_iff.1 (hb ▸ hM ▸ Finset.le_sup (f := r) (Finset.mem_univ k)))
  rcases bot_or_coe hMt with h | ⟨μ, rfl⟩
  · exact absurd h hMb
  have e1 : ∀ k, Ideal.exp (r k - μ) = ((we (r k) / Real.exp μ : ℝ) : EReal) := fun k => by
    rcases bot_or_coe (hs k) with h | ⟨s, h⟩
    · rw [h, we_bot]; simp
    · rw [h, we_coe, ← Real.exp_sub]; rfl
  have hp : 0 < ∑ k, we (r k) := by
    obtain ⟨k, h⟩ := he
    refine Finset.sum_pos' (fun i _ => we_nonneg (hs _)) ⟨k, Finset.mem_univ _, ?_⟩
    rcases bot_or_coe (hs k) with h' | ⟨s, h'⟩
    · exact absurd h' h
    · rw [h', we_coe]; positivity
  have hq : 0 < (∑ i, we (r i)) / Real.exp μ := div_pos hp (Real.exp_pos μ)
  simp only [e1]
  rw [← coe_sum, ← Finset.sum_div]
  have h0 : (((∑ i, we (r i)) / Real.exp μ : ℝ) : EReal) ≠ 0 := by exact_mod_cast hq.ne'
  refine Finset.sum_congr rfl fun k _ => ?_
  rw [Ideal.div, if_neg h0, ← EReal.coe_inv, ← EReal.coe_mul]
  congr 2
  have := Real.exp_pos μ
  field_simp

/-- Two sums agree when their terms do under a shift of the index and every unmatched term is zero. -/
theorem sum_match {A : Type} [AddCommMonoid A] {n : Nat} (f : Fin n → A) (g : Fin 5 × Fin 128 → A) (o : ℤ)
    (h1 : ∀ b i, ((128 * i.1.val + i.2.val : ℕ) : ℤ) = b.val + o → g i = f b)
    (h2 : ∀ b, ¬ (0 ≤ (b.val : ℤ) + o ∧ (b.val : ℤ) + o < 640) → f b = 0)
    (h3 : ∀ i, ¬ (0 ≤ ((128 * i.1.val + i.2.val : ℕ) : ℤ) - o ∧ ((128 * i.1.val + i.2.val : ℕ) : ℤ) - o < n) → g i = 0) :
    ∑ i, g i = ∑ b, f b := by
  classical
  refine Finset.sum_bij_ne_zero (fun i _ hi => ⟨(((128 * i.1.val + i.2.val : ℕ) : ℤ) - o).toNat, ?_⟩) ?_ ?_ ?_ ?_
  · have := not_not.1 fun h => hi (h3 i h)
    omega
  · intros; exact Finset.mem_univ _
  · rintro ⟨j, k⟩ _ hi ⟨j', k'⟩ _ hi' h
    have a := not_not.1 fun h => hi (h3 _ h)
    have b := not_not.1 fun h => hi' (h3 _ h)
    have hk := k.isLt
    have hk' := k'.isLt
    simp only [Fin.mk.injEq] at h a b
    refine Prod.ext (Fin.ext ?_) (Fin.ext ?_) <;> simp only <;> omega
  · intro b _ hb
    have a := not_not.1 fun h => hb (h2 b h)
    have e : ((128 * (((b.val : ℤ) + o).toNat / 128) + ((b.val : ℤ) + o).toNat % 128 : ℕ) : ℤ) = b.val + o := by omega
    refine ⟨(⟨((b.val : ℤ) + o).toNat / 128, by omega⟩, ⟨((b.val : ℤ) + o).toNat % 128, by omega⟩), Finset.mem_univ _, ?_, ?_⟩
    · rw [h1 b _ e]; exact hb
    · apply Fin.ext; simp only; omega
  · intro i _ hi
    have a := not_not.1 fun h => hi (h3 i h)
    refine h1 _ _ ?_
    simp only; omega

/-- The weighted means agree when values and weights do under a shift and every unmatched weight is zero. -/
theorem mean_match {n : Nat} (v : Fin n → EReal) (w : Fin n → ℝ) (v' : Fin 5 × Fin 128 → EReal) (w' : Fin 5 × Fin 128 → ℝ) (o : ℤ)
    (h1 : ∀ b i, ((128 * i.1.val + i.2.val : ℕ) : ℤ) = b.val + o → v' i = v b ∧ w' i = w b)
    (h2 : ∀ b, ¬ (0 ≤ (b.val : ℤ) + o ∧ (b.val : ℤ) + o < 640) → w b = 0)
    (h3 : ∀ i, ¬ (0 ≤ ((128 * i.1.val + i.2.val : ℕ) : ℤ) - o ∧ ((128 * i.1.val + i.2.val : ℕ) : ℤ) - o < n) → w' i = 0) :
    mean v' w' = mean v w := by
  have e : ∑ i, w' i = ∑ b, w b := sum_match w w' o (fun b i h => (h1 b i h).2) h2 h3
  unfold mean
  refine sum_match _ _ o (fun b i h => ?_) (fun b h => ?_) (fun i h => ?_)
  · rw [(h1 b i h).1, (h1 b i h).2, e]
  · rw [h2 b h]; simp
  · rw [h3 i h]; simp

end Cert.Softmax
end
end
-- ==== Proof.Att.Host.lean ====
module

public import proofs.«01_k».proof.Proof.Att.Frame
public import proofs.«01_k».proof.Proof.Att.Softmax
public import Idealize.ShloMosaic.Lib.Pipeline.ValueKit

/-!
# The arrays the kernel reads, in terms of its arguments
-/

@[expose] public section

set_option maxRecDepth 16384

noncomputable section
namespace Cert.KernelIdeal.Att

open Idealize.ShloMosaic Idealize.ShloMosaic.TcCoe Idealize.SL.Sem
open Idealize.ShloMosaic.Pipeline (Dat)
open Cert.KernelIdeal Cert.KernelIdeal.Gen Cert.Softmax
open scoped BigOperators

variable (m : (ℓ : Loc nD τ sig) → Buf (Elt Ideal) ℓ)

/-- Every window's block index at every grid point. -/
theorem idx_val : ∀ t : Fin cfg0.N, win0_0.index t = ![0, t.val]
    ∧ win0_1.index t = ![t.val / 4, 0, 0]
    ∧ win0_2.index t = ![t.val / 4, 0, 0, 0]
    ∧ win0_3.index t = ![0, 0, 0]
    ∧ win0_4.index t = ![t.val / 4, t.val % 4, 0] :=
  (by decide +kernel : ∀ t : Fin grid0.N, _)

/-- One over the logarithm of two. -/
abbrev lam : EReal := Ideal.div 1 (Ideal.log (Ideal.ofBits FTy.f32 0x40000000#32))

/-- The four arguments as the run finds them. -/
abbrev A0 (c : Dev nD) : FVec Ideal S4x4096x512 .f32 := m ((c : Thread nD τ).loc main_arg0)
abbrev A1 (c : Dev nD) : FVec Ideal S4x4096x512 .f32 := m ((c : Thread nD τ).loc main_arg1)
abbrev A2 (c : Dev nD) : FVec Ideal S4x4096x512 .f32 := m ((c : Thread nD τ).loc main_arg2)
abbrev A3 (c : Dev nD) : FVec Ideal S2x8x513 .f32 := m ((c : Thread nD τ).loc main_arg3)

theorem q_at (c : Dev nD) (t : Fin cfg0.N) (i : Fin 512) (x : Fin 1024) (b : Fin 4) (p : Fin 4096) (hb : b.val = t.val / 4)
    (hp : p.val = t.val % 4 * 1024 + x.val) :
    iblk m c 0 t (ix2 i x) = (A0 m c (ix3 b p i) : EReal) * Ideal.div lam (Ideal.ofBits FTy.f32 0x41000000#32) := by
  show V m c main_v7 ((win0_0.blk t).view.emb (ix2 i x)) = _
  entry_read
  pointwise
  blk_simp [idx_val t]
  refine congrArg (fun a : EReal => a * Ideal.div lam (Ideal.ofBits FTy.f32 0x41000000#32)) (congrArg (A0 m c) ?_)
  blk_ext [idx_val t]

theorem k_at (c : Dev nD) (t : Fin cfg0.N) (i : Fin 4096) (x : Fin 512) (b : Fin 4) (hb : b.val = t.val / 4) :
    iblk m c 1 t (ix3 0 i x) = A1 m c (ix3 b i x) := by
  blk_point [iblk, V, idx_val t]

theorem v_at (c : Dev nD) (t : Fin cfg0.N) (i : Fin 32) (r : Fin 512) (x : Fin 128) (b : Fin 4) (p : Fin 4096) (hb : b.val = t.val / 4)
    (hp : p.val = i.val * 128 + x.val) :
    iblk m c 2 t (ix4 0 i r x) = A2 m c (ix3 b p r) := by
  blk_point [iblk, V, idx_val t]

theorem row_at (c : Dev nD) (t : Fin cfg0.N) (h : Fin 8) (x : Fin 1024) :
    iblk m c 3 t (ix3 0 h x) = V m c main_v20 (ix3 0 h x) := by
  show V m c main_v20 ((win0_3.blk t).view.emb (ix3 0 h x)) = _
  congr 1
  blk_ext [idx_val t]

/-- The rows of biases, one per relative distance, in base two. -/
def rows (x : FVec Ideal S2x8x513 .f32) : FVec Ideal S2x8x1024 .f32 :=
  mulf (concatenate S2x8x1024 2 [⟨S2x8x256, broadcastInDim S2x8x256 ![0, 1, 2] bcast_S2x8x1_S2x8x256_0_1_2 (extractStridedSlice S2x8x1 ![0, 0, 512] x slices_S2x8x513_S2x8x1_0_0_512)⟩,
      ⟨S2x8x384, Host.reverse [2] (extractStridedSlice S2x8x384 ![0, 0, 129] x slices_S2x8x513_S2x8x384_0_0_129)⟩,
      ⟨S2x8x384, broadcastInDim S2x8x384 ![0, 1, 2] bcast_S2x8x1_S2x8x384_0_1_2 (extractStridedSlice S2x8x1 ![0, 0, 512] x slices_S2x8x513_S2x8x1_0_0_512)⟩]
      concatenates_S2x8x256_S2x8x384_S2x8x384_S2x8x1024_d2)
    (broadcastInDim S2x8x1024 ![] bcast_S_S2x8x1024 (Host.divf (constant S_ .f32 0x3F800000#32) (Host.log (constant S_ .f32 0x40000000#32))))

theorem rows_eq (c : Dev nD) : V m c main_v20 = rows (A3 m c) := by
  rfl

theorem rows_at (x : FVec Ideal S2x8x513 .f32) (g : Fin 2) (h : Fin 8) (k : Fin 1024) (r : Fin 513)
    (hr : r.val = if 256 ≤ k.val ∧ k.val < 640 then 768 - k.val else 512) :
    rows x (ix3 g h k) = (x (ix3 g h r) : EReal) * lam := by
  pointwise [rows]
  refine congrArg (fun a : EReal => a * lam) ?_
  have e : ∀ r' : Fin 513, r'.val = r.val → x (ix3 g h r') = x (ix3 g h r) := fun r' h' => congrArg (fun r => x (ix3 g h r)) (Fin.ext h')
  have hk := k.isLt
  by_cases h1 : k.val < 256
  · rw [dif_pos h1]
    exact e 512 (by rw [hr, if_neg (by omega)]; rfl)
  · rw [dif_neg h1]
    by_cases h2 : k.val - 256 < 384
    · rw [dif_pos h2]
      refine congrArg₂ (fun (h' : Fin 8) (r' : Fin 513) => x (ix3 g h' r')) (if_neg (by decide)) (Fin.ext ?_)
      have hr' : r.val = 768 - k.val := hr.trans (if_pos (by omega))
      rw [hr']
      show 129 + (384 - (k.val - 256 + 1)) = _
      omega
    · rw [dif_neg h2]
      exact e 512 (by rw [hr, if_neg (by omega)]; rfl)

end Cert.KernelIdeal.Att
end
end
-- ==== Proof.Att.Finite.lean ====
module

public import proofs.«01_k».proof.Defs
public import proofs.«01_k».proof.Proof.Att.Host
public import proofs.«01_k».proof.Proof.Gen.Pre_finite
public import Idealize.ShloMosaic.Lib.ReduceAll

/-!
# What the precondition says, and the scales' values

The precondition says that queries, keys and the layer's biases are real numbers; here are that, and the kernel's score
as the reference's over the logarithm of two.
-/

@[expose] public section

set_option maxRecDepth 16384

noncomputable section
namespace Cert.KernelIdeal.Att

open Idealize.ShloMosaic Idealize.ShloMosaic.TcCoe Idealize.SL.Sem
open Cert.KernelIdeal Cert.KernelIdeal.Gen Cert.Softmax
open scoped BigOperators

theorem real_of_abs (x : EReal) (h : Ideal.cmp .olt (max x (-x)) (Ideal.ofBits FTy.f32 0x7F800000#32) = 1#1) : ∃ r : ℝ, x = r := by
  have e : Ideal.ofBits FTy.f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

theorem pre_real (q k v : FVec Ideal S4x4096x512 .f32) (r : FVec Ideal S2x8x513 .f32)
    (H : Cert.Pre_finite.fn (F := Ideal) q k v r = fun _ => 1#1) :
    (∀ i, ∃ x : ℝ, q i = (x : EReal)) ∧ (∀ i, ∃ x : ℝ, k i = (x : EReal)) ∧ ∀ h j, ∃ x : ℝ, r (ix3 0 h j) = (x : EReal) := by
  have h := congrFun H (fun a : Fin 0 => a.elim0)
  obtain ⟨h8, h14⟩ := IntOp.andi_eq_one.1 h
  obtain ⟨h3, h7⟩ := IntOp.andi_eq_one.1 h8
  haveI : Subsingleton Cert.Pre_finite.S_.Idx := ⟨fun a b => funext fun i => i.elim0⟩
  refine ⟨fun i => real_of_abs _ (Host.reduce_andi_all _ _ _ _ _ h3 i), fun i => real_of_abs _ (Host.reduce_andi_all _ _ _ _ _ h7 i),
    fun h j => ?_⟩
  have := real_of_abs _ (Host.reduce_andi_all _ _ _ _ _ h14 (ix2 h j))
  revert this
  pointwise
  exact id

theorem two_lit : Ideal.ofBits FTy.f32 0x40000000#32 = ((2 : ℝ) : EReal) := by
  simp [Ideal.ofBits, Ideal.ieee]; rw [← EReal.coe_mul]; norm_num
theorem eight_lit : Ideal.ofBits FTy.f32 0x41000000#32 = ((8 : ℝ) : EReal) := by
  simp [Ideal.ofBits, Ideal.ieee]; rw [← EReal.coe_mul]; norm_num
theorem eighth_lit : Ideal.ofBits FTy.f32 0x3E000000#32 = ((1 / 8 : ℝ) : EReal) := by
  simp [Ideal.ofBits, Ideal.ieee]; rw [← EReal.coe_mul]; norm_num

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem lam_real : lam = ((1 / Real.log 2 : ℝ) : EReal) := by
  have h : Real.log 2 ≠ 0 := (Real.log_pos one_lt_two).ne'
  have e : Ideal.log ((2 : ℝ) : EReal) = ((Real.log 2 : ℝ) : EReal) := by
    show (if (2 : ℝ) ≤ 0 then ⊥ else ((Real.log 2 : ℝ) : EReal)) = _
    rw [if_neg (by norm_num)]
  unfold lam
  rw [two_lit, e]
  exact div_real 1 _ h

/-- The score in base two is the reference's over the logarithm of two. -/
theorem score_real (q k : Fin 64 → EReal) (r : EReal) (hq : ∀ y, ∃ x : ℝ, q y = x) (hk : ∀ y, ∃ x : ℝ, k y = x) (hr : ∃ x : ℝ, r = x) :
    ∃ x : ℝ, (∑ y, q y * k y) * Ideal.ofBits FTy.f32 0x3E000000#32 + r = (x : EReal)
      ∧ (∑ y, k y * (q y * Ideal.div lam (Ideal.ofBits FTy.f32 0x41000000#32))) + r * lam = ((x * (1 / Real.log 2) : ℝ) : EReal) := by
  choose q' hq using hq
  choose k' hk using hk
  obtain ⟨r', rfl⟩ := hr
  refine ⟨(∑ y, q' y * k' y) * (1 / 8) + r', ?_, ?_⟩
  · simp only [hq, hk, eighth_lit, ← EReal.coe_mul, ← coe_sum, ← EReal.coe_add]
  · rw [lam_real, eight_lit, div_real _ _ (by norm_num)]
    simp only [hq, hk, ← EReal.coe_mul, ← coe_sum, ← EReal.coe_add]
    congr 1
    rw [add_mul, Finset.sum_mul, Finset.sum_mul]
    congr 1
    refine Finset.sum_congr rfl fun y _ => ?_
    ring

/-- Outside the band the kernel's score is minus infinity. -/
theorem score_bot (q k : Fin 64 → EReal) (hq : ∀ y, ∃ x : ℝ, q y = x) (hk : ∀ y, ∃ x : ℝ, k y = x) :
    (∑ y, k y * (q y * Ideal.div lam (Ideal.ofBits FTy.f32 0x41000000#32))) + (⊥ : EReal) = ⊥ := by
  exact EReal.add_bot _

end Cert.KernelIdeal.Att
end
end
-- ==== Proof.Att.Table.lean ====
module

public import proofs.«01_k».proof.Proof.Att.Defs
public import proofs.«01_k».proof.Proof.Att.Softmax
public import Idealize.ShloMosaic.Lib.Pipeline.ValueKit

/-!
# The bias table at an index
-/

@[expose] public section

set_option maxRecDepth 16384

noncomputable section
namespace Cert.KernelIdeal.Att

open Idealize.ShloMosaic Idealize.ShloMosaic.TcCoe Idealize.SL.Sem
open Idealize.ShloMosaic.Pipeline (Dat)
open Cert.KernelIdeal Cert.KernelIdeal.Gen Cert.Softmax
open scoped BigOperators

theorem mask_eq : (Named.named κ "mask" (0xF149F2CA#32 : BitVec FTy.f32.bits) : Ideal .f32) = (⊥ : EReal) := by
  show (κ "mask").getD _ = (⊥ : EReal)
  rfl

theorem sel_if {P : Prop} [Decidable P] {c : BitVec 1} (hc : c = if P then 1#1 else 0#1) {a b a' b' : EReal} (ha : a = a')
    (hb : b = b') : Scalar.select c a b = if P then a' else b' := by
  subst hc ha hb
  by_cases h : P
  · rw [if_pos h, if_pos h]; rfl
  · rw [if_neg h, if_neg h]; rfl

/-- The positions of the window a query of lane `l` sees. -/
def inBand (r l : Nat) : Prop := (if 64 ≤ l then 64 else 0) ≤ r ∧ r < (if 64 ≤ l then 64 else 0) + 576

instance (r l : Nat) : Decidable (inBand r l) := inferInstanceAs (Decidable (_ ∧ _))

theorem band_bit (r : Fin 640) (l : Fin 128) : k0_pay4 (ix2 r l) = if inBand r.val l.val then 1#1 else 0#1 := by
  have H1 : ∀ l : Fin 128, Scalar.select (IntOp.cmpi CmpIPredicate.sge (BitVec.ofNat 32 l.val) 64#32) 64#32 0#32
      = if 64 ≤ l.val then 64#32 else 0#32 := by decide +kernel
  have H2 : ∀ r : Fin 640, IntOp.andi (IntOp.cmpi CmpIPredicate.sge (BitVec.ofNat 32 r.val) 64#32)
      (IntOp.cmpi CmpIPredicate.slt (BitVec.ofNat 32 r.val) (IntOp.addi 64#32 576#32)) = if 64 ≤ r.val ∧ r.val < 64 + 576 then 1#1 else 0#1 := by
    decide +kernel
  have H3 : ∀ r : Fin 640, IntOp.andi (IntOp.cmpi CmpIPredicate.sge (BitVec.ofNat 32 r.val) 0#32)
      (IntOp.cmpi CmpIPredicate.slt (BitVec.ofNat 32 r.val) (IntOp.addi 0#32 576#32)) = if 0 ≤ r.val ∧ r.val < 0 + 576 then 1#1 else 0#1 := by
    decide +kernel
  pointwise [k0_pay4]
  rw [H1]
  unfold inBand
  by_cases h : 64 ≤ l.val
  · simp only [if_pos h]; exact H2 r
  · simp only [if_neg h]; exact H3 r

/-- The bias row of a head, its rotation undone. -/
theorem pay5_at (x : Vec Ideal S1x1x1024 .f32) (r : Fin 640) (l : Fin 128) (w : Fin 1024) (hw : w.val = (r.val + 1024 - l.val) % 1024) :
    k0_pay5 (F := Ideal) x (ix3 0 r l) = if inBand r.val l.val then (x (ix3 0 0 w) : EReal) else ⊥ := by
  pointwise [k0_pay5]
  have e : ∀ w' : Fin 1024, w'.val = (r.val + 1024 - l.val) % 1024 → x (ix3 0 0 w') = x (ix3 0 0 w) := fun w' h =>
    congrArg (fun w => x (ix3 0 0 w)) (Fin.ext (h.trans hw.symm))
  have hl := l.isLt
  refine sel_if (band_bit r l) ?_ mask_eq
  split_ifs <;> exact e _ (by simp only; omega)

/-- The table's entry for a head, a position and a lane. -/
def tableOf (x3 : Vec Ideal S1x8x1024 .f32) (y : S8x1152x128.Idx) : EReal :=
  if inBand (y 1).val (y 2).val ∧ (y 1).val < 640 then
    (x3 (ix3 0 (y 0) ⟨((y 1).val + 1024 - (y 2).val) % 1024, Nat.mod_lt _ (by decide)⟩) : EReal) else ⊥

theorem rin_piece (x3 : Vec Ideal S1x8x1024 .f32) (h : Fin 8) (x : S1x640x128.Idx) :
    k0_pay5 (F := Ideal) (View.ld x3 (rt h)) x = tableOf x3 ((rin h).emb x) := by
  obtain ⟨x0, r, l, rfl⟩ : ∃ (a : Fin 1) (r : Fin 640) (l : Fin 128), x = ix3 a r l := ⟨x 0, x 1, x 2, eq_ix3 x⟩
  obtain rfl : x0 = 0 := Subsingleton.elim _ _
  have e : (rin h).emb (ix3 0 r l) = (ix3 h ⟨r.val, by omega⟩ l : S8x1152x128.Idx) := by
    funext a; refine Fin.ext ?_
    match a with
    | ⟨0, _⟩ => show h.val + 1 * 0 = h.val; omega
    | ⟨1, _⟩ => show 0 + 1 * r.val = r.val; omega
    | ⟨2, _⟩ => show 0 + 1 * l.val = l.val; omega
  rw [e, pay5_at _ r l ⟨(r.val + 1024 - l.val) % 1024, Nat.mod_lt _ (by decide)⟩ rfl]
  unfold tableOf
  have hr := r.isLt
  show (if inBand r.val l.val then _ else _) = if inBand r.val l.val ∧ r.val < 640 then _ else _
  simp only [hr, and_true]
  refine if_congr Iff.rfl ?_ rfl
  show x3 _ = x3 _
  congr 1
  funext a; refine Fin.ext ?_
  match a with
  | ⟨0, _⟩ => rfl
  | ⟨1, _⟩ => show h.val + 1 * 0 = h.val; omega
  | ⟨2, _⟩ => show 0 + 1 * ((r.val + 1024 - l.val) % 1024) = _; rw [Nat.zero_add, Nat.one_mul]; rfl

theorem rout_piece (x3 : Vec Ideal S1x8x1024 .f32) (h : Fin 8) (x : S1x512x128.Idx) :
    k0_pay6 (F := Ideal) x = tableOf x3 ((rout h).emb x) := by
  have e : ((rout h).emb x 1).val = 640 + 1 * (x 1).val := rfl
  unfold tableOf
  rw [if_neg (by rw [e]; omega)]
  obtain ⟨a, r, l, rfl⟩ : ∃ (a : Fin 1) (r : Fin 512) (l : Fin 128), x = ix3 a r l := ⟨x 0, x 1, x 2, eq_ix3 x⟩
  obtain rfl : a = 0 := Subsingleton.elim _ _
  pointwise [k0_pay6]
  exact mask_eq

theorem table_at (x3 : Vec Ideal S1x8x1024 .f32) (y : S8x1152x128.Idx) : table x3 y = tableOf x3 y := by
  refine View.canon_eq_of_allAt _ y _ (tableCover x3 y) ?_
  intro p hp x hx
  rw [← hx]
  simp only [tablePieces, List.mem_cons, List.not_mem_nil, or_false] at hp
  rcases hp with rfl | rfl | rfl | rfl | rfl | rfl | rfl | rfl | rfl | rfl | rfl | rfl | rfl | rfl | rfl | rfl
  all_goals first | exact rout_piece x3 _ x | exact rin_piece x3 _ x

end Cert.KernelIdeal.Att
end
end
-- ==== Proof.Att.Head.lean ====
module

public import proofs.«01_k».proof.Proof.Att.Defs
public import proofs.«01_k».proof.Proof.Att.Softmax
public import Idealize.ShloMosaic.Lib.Pipeline.ValueKit

/-!
# One head of a sub tile at an index
-/

@[expose] public section

set_option maxRecDepth 16384

noncomputable section
namespace Cert.KernelIdeal.Att

open Idealize.ShloMosaic Idealize.ShloMosaic.TcCoe Idealize.SL.Sem
open Idealize.ShloMosaic.Pipeline (Dat)
open Cert.KernelIdeal Cert.KernelIdeal.Gen Cert.Softmax
open scoped BigOperators

theorem tileMax_at (sc : FVec Ideal S128x128 .f32) (l : Fin 128) :
    tileMax sc (ix2 0 l) = Finset.univ.sup fun k : Fin 128 => (sc (ix2 k l) : EReal) := by
  have hb : Ideal.ofBits FTy.f32 0xFF800000#32 = ⊥ := by simp [Ideal.ofBits, Ideal.ieee]
  pointwise [tileMax]
  rw [hb]
  rfl

theorem tileOut_at (sc : FVec Ideal S128x128 .f32) (m v) (i l : Fin 128) : tileOut sc m v (ix2 i l)
    = ∑ k : Fin 128, (if h : i.val < 64 then (v (ix4 0 0 ⟨i.val, h⟩ k) : EReal) else 1) * Ideal.exp2 (sc (ix2 k l) - m (ix2 0 l)) := by
  pointwise [tileOut, k0_pay27]
  rfl

theorem maxOf_at (m0 m1 m2 m3 m4 : FVec Ideal S1x128 .f32) (l : Fin 128) : maxOf m0 m1 m2 m3 m4 (ix2 0 l)
    = max (max (max (max (m0 (ix2 0 l)) (m1 (ix2 0 l))) (m2 (ix2 0 l))) (m3 (ix2 0 l))) (m4 (ix2 0 l)) := by
  pointwise [maxOf]

theorem share_at (m0 m1 : FVec Ideal S1x128 .f32) (o) (i l : Fin 128) :
    share m0 m1 o (ix2 i l) = Ideal.exp2 (m0 (ix2 0 l) - m1 (ix2 0 l)) * o (ix2 i l) := by
  pointwise [share]
  rfl

theorem accOf_at (m0 m1 m2 m3 m4 : FVec Ideal S1x128 .f32) (o0 o1 o2 o3 o4) (i l : Fin 128) :
    accOf m0 m1 m2 m3 m4 o0 o1 o2 o3 o4 (ix2 i l) =
      share m0 (maxOf m0 m1 m2 m3 m4) o0 (ix2 i l) + share m1 (maxOf m0 m1 m2 m3 m4) o1 (ix2 i l)
      + share m2 (maxOf m0 m1 m2 m3 m4) o2 (ix2 i l) + share m3 (maxOf m0 m1 m2 m3 m4) o3 (ix2 i l)
      + share m4 (maxOf m0 m1 m2 m3 m4) o4 (ix2 i l) := by
  pointwise [accOf]

theorem quot_at (acc) (d : Fin 64) (l : Fin 128) :
    k0_pay44 (F := Ideal) acc (ix2 d l) = Ideal.div (acc (ix2 ⟨d.val, by omega⟩ l)) (acc (ix2 64 l)) := by
  pointwise [k0_pay44]

/-- The head at output column `d` of query `l`: the values' mean under the weights of the five tiles' scores. -/
theorem headOf_at (sc : Fin 5 → FVec Ideal S128x128 .f32) (v : Fin 5 → Vec Ideal S1x1x64x128 .bf16) (d : Fin 64) (l : Fin 128)
    (ht : ∀ j k, (sc j (ix2 k l) : EReal) ≠ ⊤) (he : ∃ j k, (sc j (ix2 k l) : EReal) ≠ ⊥) :
    headOf (sc 0) (sc 1) (sc 2) (sc 3) (sc 4) (v 0) (v 1) (v 2) (v 3) (v 4) (ix2 d l)
      = mean (fun i : Fin 5 × Fin 128 => (v i.1 (ix4 0 0 d i.2) : EReal)) (fun i => wt (sc i.1 (ix2 i.2 l))) := by
  unfold headOf
  rw [quot_at]
  refine tiles (fun j k => sc j (ix2 k l)) (fun j k => v j (ix4 0 0 d k)) ht he
    (fun j => tileMax (sc j) (ix2 0 l)) (fun j => tileMax_at (sc j) l) _ (maxOf_at _ _ _ _ _ l) _ _ ?_ ?_
  · rw [Fin.sum_univ_five, accOf_at]
    have e : ∀ j, tileOut (sc j) (tileMax (sc j)) (v j) (ix2 ⟨d.val, by omega⟩ l)
        = ∑ k, (v j (ix4 0 0 d k) : EReal) * Ideal.exp2 (sc j (ix2 k l) - tileMax (sc j) (ix2 0 l)) := fun j => by
      rw [tileOut_at]
      refine Finset.sum_congr rfl fun k _ => ?_
      rw [dif_pos d.isLt]
    simp only [share_at, e]
  · rw [Fin.sum_univ_five, accOf_at]
    have e : ∀ j, tileOut (sc j) (tileMax (sc j)) (v j) (ix2 64 l)
        = ∑ k, (1 : EReal) * Ideal.exp2 (sc j (ix2 k l) - tileMax (sc j) (ix2 0 l)) := fun j => by
      rw [tileOut_at]
      refine Finset.sum_congr rfl fun k _ => ?_
      rw [dif_neg (by decide)]
    simp only [share_at, e]

theorem scoreEven_at (q : Vec Ideal S64x128 .bf16) (k : Vec Ideal S1x128x128 .bf16) (b : Vec Ideal S1x128x128 .f32) (x l : Fin 128) :
    score (F := Ideal) (qEven q) k b (ix2 x l)
      = (∑ y : Fin 64, (k (ix3 0 x ⟨y.val, by omega⟩) : EReal) * q (ix2 y l)) + b (ix3 0 x l) := by
  pointwise [score, qEven, k0_pay28, k0_pay26]
  simp

theorem scoreOdd_at (q : Vec Ideal S64x128 .bf16) (k : Vec Ideal S1x128x128 .bf16) (b : Vec Ideal S1x128x128 .f32) (x l : Fin 128) :
    score (F := Ideal) (qOdd q) k b (ix2 x l)
      = (∑ y : Fin 64, (k (ix3 0 x ⟨64 + y.val, by omega⟩) : EReal) * q (ix2 y l)) + b (ix3 0 x l) := by
  pointwise [score, qOdd, k0_pay45, k0_pay26]
  simp

end Cert.KernelIdeal.Att
end
end
-- ==== Proof.Att.RefDefs.lean ====
module

public import proofs.«01_k».proof.Proof.Gen.ReferenceIdeal.Run
public import proofs.«01_k».proof.Proof.Att.Softmax
public import Idealize.ShloMosaic.Lib.Pipeline.ValueKit

/-!
# The reference's attention, layer by layer

A query of chunk `c` sees the 576 keys of the nine chunks `c - 8, …, c`; keys before the sequence's start are masked.
-/

@[expose] public section

set_option maxRecDepth 16384

noncomputable section
namespace Cert.AttRef

open Idealize.ShloMosaic Idealize.ShloMosaic.TcCoe Idealize.SL.Sem
open Cert.ReferenceIdeal Cert.ReferenceIdeal.Gen Cert.Softmax
open scoped BigOperators

/-- The keys or values with eight chunks of zeros before them. -/
def padded (x : FVec Ideal S4x4096x512 .f32) : FVec Ideal S4x72x64x8x64 .f32 :=
  pad S4x72x64x8x64 ![0, 8, 0, 0, 0] ![0, 0, 0, 0, 0] ![0, 0, 0, 0, 0] (shapeCast S4x64x64x8x64 x shapeCasts_S4x4096x512_S4x64x64x8x64) (sitofp .f32 (constantI S_ 32 0#32)) pads_S4x64x64x8x64_S4x72x64x8x64_000_800_000_000_000 h_S_

/-- Each chunk's band: the nine chunks that end with it. -/
def band (x : FVec Ideal S4x4096x512 .f32) : FVec Ideal S4x64x576x8x64 .f32 :=
  concatenate S4x64x576x8x64 2 [⟨S4x64x64x8x64, ((extractStridedSlice S4x64x64x8x64 ![0, 0, 0, 0, 0] (padded x) slices_S4x72x64x8x64_S4x64x64x8x64_0_0_0_0_0))⟩, ⟨S4x64x64x8x64, ((extractStridedSlice S4x64x64x8x64 ![0, 1, 0, 0, 0] (padded x) slices_S4x72x64x8x64_S4x64x64x8x64_0_1_0_0_0))⟩, ⟨S4x64x64x8x64, ((extractStridedSlice S4x64x64x8x64 ![0, 2, 0, 0, 0] (padded x) slices_S4x72x64x8x64_S4x64x64x8x64_0_2_0_0_0))⟩, ⟨S4x64x64x8x64, ((extractStridedSlice S4x64x64x8x64 ![0, 3, 0, 0, 0] (padded x) slices_S4x72x64x8x64_S4x64x64x8x64_0_3_0_0_0))⟩, ⟨S4x64x64x8x64, ((extractStridedSlice S4x64x64x8x64 ![0, 4, 0, 0, 0] (padded x) slices_S4x72x64x8x64_S4x64x64x8x64_0_4_0_0_0))⟩, ⟨S4x64x64x8x64, ((extractStridedSlice S4x64x64x8x64 ![0, 5, 0, 0, 0] (padded x) slices_S4x72x64x8x64_S4x64x64x8x64_0_5_0_0_0))⟩, ⟨S4x64x64x8x64, ((extractStridedSlice S4x64x64x8x64 ![0, 6, 0, 0, 0] (padded x) slices_S4x72x64x8x64_S4x64x64x8x64_0_6_0_0_0))⟩, ⟨S4x64x64x8x64, ((extractStridedSlice S4x64x64x8x64 ![0, 7, 0, 0, 0] (padded x) slices_S4x72x64x8x64_S4x64x64x8x64_0_7_0_0_0))⟩, ⟨S4x64x64x8x64, ((extractStridedSlice S4x64x64x8x64 ![0, 8, 0, 0, 0] (padded x) slices_S4x72x64x8x64_S4x64x64x8x64_0_8_0_0_0))⟩] concatenates_S4x64x64x8x64_S4x64x64x8x64_S4x64x64x8x64_S4x64x64x8x64_S4x64x64x8x64_S4x64x64x8x64_S4x64x64x8x64_S4x64x64x8x64_S4x64x64x8x64_S4x64x576x8x64_d2

/-- The clipped relative distance of a query and a key of its band, from zero. -/
def clipped : IVec S64x576 32 :=
  addi (minsi (broadcastInDim S64x576 ![] bcast_S_S64x576 (id (constantI S_ 32 256#32))) (maxsi (broadcastInDim S64x576 ![] bcast_S_S64x576 (id (constantI S_ 32 4294967040#32))) (addi (subi (broadcastInDim S64x576 ![0, 1] bcast_S64x1_S64x576_0_1 (broadcastInDim S64x1 ![0] bcast_S64_S64x1_0 (iotaInDim S64 32 0))) (broadcastInDim S64x576 ![0, 1] bcast_S1x576_S64x576_0_1 (broadcastInDim S1x576 ![1] bcast_S576_S1x576_1 (iotaInDim S576 32 0)))) (broadcastInDim S64x576 ![] bcast_S_S64x576 (constantI S_ 32 512#32))))) (broadcastInDim S64x576 ![] bcast_S_S64x576 (constantI S_ 32 256#32))

/-- The row of the bias a query and a key read. -/
def relIdx : IVec S64x576 32 :=
  select (cmpi .slt clipped (broadcastInDim S64x576 ![] bcast_S_S64x576 (constantI S_ 32 0#32))) (addi clipped (broadcastInDim S64x576 ![] bcast_S_S64x576 (constantI S_ 32 513#32))) clipped

/-- A band position's chunk within the band. -/
def keyChunk : IVec S1x576 32 :=
  select (andi (cmpi .ne (signi (broadcastInDim S1x576 ![1] bcast_S576_S1x576_1 (iotaInDim S576 32 0))) (broadcastInDim S1x576 ![] bcast_S_S1x576 (signi (id (constantI S_ 32 64#32))))) (cmpi .ne (Host.remsi (broadcastInDim S1x576 ![1] bcast_S576_S1x576_1 (iotaInDim S576 32 0)) (broadcastInDim S1x576 ![] bcast_S_S1x576 (id (constantI S_ 32 64#32)))) (broadcastInDim S1x576 ![] bcast_S_S1x576 (constantI S_ 32 0#32)))) (subi (Host.divsi (broadcastInDim S1x576 ![1] bcast_S576_S1x576_1 (iotaInDim S576 32 0)) (broadcastInDim S1x576 ![] bcast_S_S1x576 (id (constantI S_ 32 64#32)))) (broadcastInDim S1x576 ![] bcast_S_S1x576 (constantI S_ 32 1#32))) (Host.divsi (broadcastInDim S1x576 ![1] bcast_S576_S1x576_1 (iotaInDim S576 32 0)) (broadcastInDim S1x576 ![] bcast_S_S1x576 (id (constantI S_ 32 64#32))))

/-- The band positions that lie in the sequence. -/
def valid : IVec S64x576 1 :=
  cmpi .sge (addi (broadcastInDim S64x576 ![0, 1] bcast_S64x1_S64x576_0_1 (subi (broadcastInDim S64x1 ![0] bcast_S64_S64x1_0 (iotaInDim S64 32 0)) (broadcastInDim S64x1 ![] bcast_S_S64x1 (constantI S_ 32 8#32)))) (broadcastInDim S64x576 ![0, 1] bcast_S1x576_S64x576_0_1 keyChunk)) (broadcastInDim S64x576 ![] bcast_S_S64x576 (constantI S_ 32 0#32))

/-- The bias of a head, a query and a band position. -/
def bias (r : FVec Ideal S2x8x513 .f32) : FVec Ideal S8x64x576 .f32 :=
  Host.gather gather_S8x513_S64x576x1_S8x64x576_0_1_n_n_1_2_81 (shapeCast S8x513 (extractStridedSlice S1x8x513 ![0, 0, 0] r slices_S2x8x513_S1x8x513_0_0_0) shapeCasts_S1x8x513_S8x513) (broadcastInDim S64x576x1 ![0, 1] bcast_S64x576_S64x576x1_0_1 relIdx)

/-- The scores. -/
def scores (q k : FVec Ideal S4x4096x512 .f32) (r : FVec Ideal S2x8x513 .f32) : FVec Ideal S4x64x8x64x576 .f32 :=
  addf (mulf (Host.dotGeneral dot_S4x64x64x8x64_S4x64x576x8x64_S4x64x8x64x576_4_4_2_2_013_013 none (shapeCast S4x64x64x8x64 q shapeCasts_S4x4096x512_S4x64x64x8x64) (band k)) (broadcastInDim S4x64x8x64x576 ![] bcast_S_S4x64x8x64x576 (constant S_ .f32 0x3E000000#32))) (broadcastInDim S4x64x8x64x576 ![0, 1, 2, 3, 4] bcast_S1x1x8x64x576_S4x64x8x64x576_0_1_2_3_4 (broadcastInDim S1x1x8x64x576 ![2, 3, 4] bcast_S8x64x576_S1x1x8x64x576_2_3_4 (bias r)))

/-- The scores, masked. -/
def masked (s : FVec Ideal S4x64x8x64x576 .f32) : FVec Ideal S4x64x8x64x576 .f32 :=
  select (broadcastInDim S4x64x8x64x576 ![0, 1, 2, 3, 4] bcast_S1x64x1x1x576_S4x64x8x64x576_0_1_2_3_4 (broadcastInDim S1x64x1x1x576 ![1, 4] bcast_S64x576_S1x64x1x1x576_1_4 valid)) s (broadcastInDim S4x64x8x64x576 ![] bcast_S_S4x64x8x64x576 (id (constant S_ .f32 0xFF800000#32)))

/-- Each row's greatest score. -/
def rowMax (s : FVec Ideal S4x64x8x64x576 .f32) : FVec Ideal S4x64x8x64 .f32 :=
  maximumf (broadcastInDim S4x64x8x64 ![] bcast_S_S4x64x8x64 (constant S_ .f32 0xFF800000#32)) (Host.reduce FloatOps.maximumf s (constant S_ .f32 0xFF800000#32) reducesTo_S4x64x8x64x576_S4x64x8x64_d4 h_S_)

/-- The weights. -/
def weights (s : FVec Ideal S4x64x8x64x576 .f32) (m : FVec Ideal S4x64x8x64 .f32) : FVec Ideal S4x64x8x64x576 .f32 :=
  Host.exp (subf s (broadcastInDim S4x64x8x64x576 ![0, 1, 2, 3, 4] bcast_S4x64x8x64x1_S4x64x8x64x576_0_1_2_3_4 (broadcastInDim S4x64x8x64x1 ![0, 1, 2, 3] bcast_S4x64x8x64_S4x64x8x64x1_0_1_2_3 m)))

/-- The weights over their sum. -/
def probs (w : FVec Ideal S4x64x8x64x576 .f32) : FVec Ideal S4x64x8x64x576 .f32 :=
  Host.divf w (broadcastInDim S4x64x8x64x576 ![0, 1, 2, 3, 4] bcast_S4x64x8x64x1_S4x64x8x64x576_0_1_2_3_4 (broadcastInDim S4x64x8x64x1 ![0, 1, 2, 3] bcast_S4x64x8x64_S4x64x8x64x1_0_1_2_3 (Host.reduceAdd w (constant S_ .f32 0x00000000#32) reducesTo_S4x64x8x64x576_S4x64x8x64_d4 h_S_)))

/-- The weighted values, one row per query. -/
def mixed (v : FVec Ideal S4x64x576x8x64 .f32) (p : FVec Ideal S4x64x8x64x576 .f32) : FVec Ideal S4x4096x512 .bf16 :=
  truncf .bf16 (shapeCast S4x4096x512 (transpose S4x64x64x8x64 [0, 1, 4, 2, 3] (Host.dotGeneral dot_S4x64x576x8x64_S4x64x8x64x576_S4x64x8x64x64_2_4_4_3_013_012 none v p) transposes_S4x64x8x64x64_S4x64x64x8x64_0_1_4_2_3) shapeCasts_S4x64x64x8x64_S4x4096x512) bitsLt_bf16_f32

/-- The attention. -/
def att (q k v : FVec Ideal S4x4096x512 .f32) (r : FVec Ideal S2x8x513 .f32) : FVec Ideal S4x4096x512 .bf16 :=
  mixed (band v) (probs (weights (masked (scores q k r)) (rowMax (masked (scores q k r)))))

theorem res_eq (m : (ℓ : Loc nD τ sig) → Buf (Elt Ideal) ℓ) (c : Dev nD) :
    Cert.ReferenceIdeal.Value.res_main_v78 m c = att (m ((c.tc : Thread nD τ).loc main_arg0)) (m ((c.tc : Thread nD τ).loc main_arg1))
      (m ((c.tc : Thread nD τ).loc main_arg2)) (m ((c.tc : Thread nD τ).loc main_arg3)) := by
  delta Cert.ReferenceIdeal.Value.res_main_v78 att mixed probs weights rowMax masked scores bias valid keyChunk relIdx clipped band padded
  rfl

end Cert.AttRef
end
end
-- ==== Proof.Att.Ref.lean ====
module

public import proofs.«01_k».proof.Proof.Att.RefDefs

/-!
# The reference's attention at an index
-/

@[expose] public section

set_option maxRecDepth 16384

noncomputable section
namespace Cert.AttRef

open Idealize.ShloMosaic Idealize.ShloMosaic.TcCoe Idealize.SL.Sem
open Cert.ReferenceIdeal Cert.ReferenceIdeal.Gen Cert.Softmax
open scoped BigOperators

theorem kc_at : ∀ k : Fin 576, keyChunk (ix2 0 k) = BitVec.ofNat 32 (k.val / 64) := by
  intro k
  pointwise [keyChunk]
  simp only [id, constantI_apply]
  revert k
  decide +kernel

theorem valid_at (c : Fin 64) (k : Fin 576) : valid (ix2 c k) = if 512 ≤ 64 * c.val + k.val then 1#1 else 0#1 := by
  have H : ∀ (c : Fin 64) (j : Fin 9), IntOp.cmpi CmpIPredicate.sge (IntOp.addi (IntOp.subi (BitVec.ofNat 32 c.val) 8#32) (BitVec.ofNat 32 j.val)) 0#32
      = if 8 ≤ c.val + j.val then 1#1 else 0#1 := by decide +kernel
  pointwise [valid]
  rw [kc_at]
  refine (H c ⟨k.val / 64, by omega⟩).trans ?_
  have : (8 ≤ c.val + k.val / 64) = (512 ≤ 64 * c.val + k.val) := by apply propext; omega
  simp only [this]

theorem relIdx_at (l : Fin 64) (k : Fin 576) : relIdx (ix2 l k) = BitVec.ofNat 32 (min 512 (768 + l.val - k.val)) := by
  have H : ∀ e : Fin 639, (fun w : BitVec 32 => Scalar.select (IntOp.cmpi CmpIPredicate.slt w 0#32) (IntOp.addi w 513#32) w)
      (IntOp.addi (IntOp.minsi 256#32 (IntOp.maxsi 4294967040#32 (IntOp.addi (BitVec.ofNat 32 e.val - 575#32) 512#32))) 256#32)
      = BitVec.ofNat 32 (min 512 (e.val + 193)) := by decide +kernel
  have e1 : clipped (ix2 l k) = (IntOp.addi (IntOp.minsi 256#32 (IntOp.maxsi 4294967040#32 (IntOp.addi (BitVec.ofNat 32 (l.val + 575 - k.val) - 575#32) 512#32))) 256#32) := by
    pointwise [clipped]
    simp only [id, constantI_apply]
    have : IntOp.subi (BitVec.ofNat 32 l.val) (BitVec.ofNat 32 k.val) = BitVec.ofNat 32 (l.val + 575 - k.val) - 575#32 := by
      have h1 := l.isLt
      have h2 := k.isLt
      show BitVec.ofNat 32 l.val - BitVec.ofNat 32 k.val = _
      apply BitVec.eq_of_toNat_eq
      simp only [BitVec.toNat_sub, BitVec.toNat_ofNat]
      omega
    rw [this]
  pointwise [relIdx]
  rw [e1]
  refine (H ⟨l.val + 575 - k.val, by omega⟩).trans ?_
  congr 2
  show l.val + 575 - k.val + 193 = _
  omega

theorem minus_inf : Ideal.ofBits FTy.f32 0xFF800000#32 = ⊥ := by simp [Ideal.ofBits, Ideal.ieee]

/-- A maximum over the last of five axes, for any sizes. -/
theorem reduce_last {n0 n1 n2 n3 n4 : Nat} (v : FVec Ideal (⟨5, ![n0, n1, n2, n3, n4]⟩ : Shape) .f32) (c : FVec Ideal S_ .f32)
    (h : (⟨5, ![n0, n1, n2, n3, n4]⟩ : Shape).ReducesTo [4] (⟨4, ![n0, n1, n2, n3]⟩ : Shape)) (hu : 0 < S_.numel)
    (i0 : Fin n0) (i1 : Fin n1) (i2 : Fin n2) (i3 : Fin n3) (hc : c (Shape.Idx.first hu) = (⊥ : EReal)) :
    Host.reduce FloatOps.maximumf v c h hu (ix4 i0 i1 i2 i3)
      = Finset.univ.sup fun k : Fin n4 => v (ix5 i0 i1 i2 i3 k) := by
  have e : Host.reduce FloatOps.maximumf v c h hu (ix4 i0 i1 i2 i3)
      = Finset.univ.fold max (c (Shape.Idx.first hu)) fun k : Fin n4 => v (ix5 i0 i1 i2 i3 k) := by
    simp only [pointwise]
  rw [e, hc]
  rfl

theorem max_bot (R : FVec Ideal S4x64x8x64 .f32) (j : S4x64x8x64.Idx) :
    maximumf (broadcastInDim S4x64x8x64 ![] bcast_S_S4x64x8x64 (constant S_ .f32 0xFF800000#32)) R j = R j := by
  show max (Ideal.ofBits FTy.f32 0xFF800000#32) (R j) = R j
  rw [minus_inf]
  exact bot_sup_eq (R j)

theorem rowMax_at (s) (b : Fin 4) (c : Fin 64) (h : Fin 8) (l : Fin 64) :
    rowMax s (ix4 b c h l) = Finset.univ.sup (fun k : Fin 576 => s (ix5 b c h l k)) :=
  (max_bot _ _).trans (reduce_last s _ _ _ b c h l minus_inf)

theorem weights_at (s m) (b : Fin 4) (c : Fin 64) (h : Fin 8) (l : Fin 64) (d : Fin 576) :
    weights s m (ix5 b c h l d) = Ideal.exp (s (ix5 b c h l d) - m (ix4 b c h l)) := by
  pointwise [weights]
theorem probs_at (s) (b : Fin 4) (c : Fin 64) (h : Fin 8) (l : Fin 64) (d : Fin 576) :
    probs s (ix5 b c h l d) = Ideal.div (s (ix5 b c h l d)) (∑ x, s (ix5 b c h l x)) := by
  pointwise [probs]
theorem mixed_at (v p) (b : Fin 4) (s : Fin 4096) (x : Fin 512) (c l : Fin 64) (h : Fin 8) (d : Fin 64)
    (hs : s.val = 64 * c.val + l.val) (hx : x.val = 64 * h.val + d.val) :
    mixed v p (ix3 b s x) = ∑ k, v (ix5 b c k h d) * p (ix5 b c h l k) := by
  have e1 : (⟨s.val / 64, by omega⟩ : Fin 64) = c := Fin.ext (by show s.val / 64 = c.val; omega)
  have e2 : (⟨x.val / 64, by omega⟩ : Fin 8) = h := Fin.ext (by show x.val / 64 = h.val; omega)
  have e3 : (⟨x.val % 64, by omega⟩ : Fin 64) = d := Fin.ext (by show x.val % 64 = d.val; omega)
  have e4 : (⟨s.val % 64, by omega⟩ : Fin 64) = l := Fin.ext (by show s.val % 64 = l.val; omega)
  pointwise [mixed]
  rw [e1, e2, e3, e4]

theorem padded_at (x) (b : Fin 4) (c : Fin 72) (l : Fin 64) (h : Fin 8) (d : Fin 64) (p : Fin 4096) (n : Fin 512)
    (hp : p.val + 512 = 64 * c.val + l.val) (hn : n.val = h.val * 64 + d.val) : padded x (ix5 b c l h d) = x (ix3 b p n) := by
  pointwise [padded]
  rw [dif_pos (by omega)]
  refine congrArg₂ (fun p n => x (ix3 b p n)) (Fin.ext ?_) (Fin.ext ?_)
  · show (c.val - 8) * 64 + l.val = p.val; omega
  · exact hn.symm

theorem padded_zero (x) (b : Fin 4) (c : Fin 72) (l : Fin 64) (h : Fin 8) (d : Fin 64)
    (hp : c.val < 8) : padded x (ix5 b c l h d) = (0 : EReal) := by
  pointwise [padded]
  rw [dif_neg (by omega)]
  show (((0#32 : BitVec 32).toInt : ℝ) : EReal) = 0
  simp

/-- A band position is a chunk of the padded array and a position within the chunk. -/
theorem band_at (x) (b : Fin 4) (c : Fin 64) (l : Fin 576) (h : Fin 8) (d : Fin 64) (c' : Fin 72) (l' : Fin 64)
    (hc : c'.val = c.val + l.val / 64) (hl : l'.val = l.val % 64) : band x (ix5 b c l h d) = padded x (ix5 b c' l' h d) := by
  pointwise [band]
  split_ifs <;>
  · refine congrArg₂ (fun c l => padded x (ix5 b c l h d)) (Fin.ext ?_) (Fin.ext ?_) <;> simp only <;> omega

theorem gather_row (x : FVec Ideal S8x513 .f32) (i : IVec S64x576x1 32) (h : Fin 8) (l : Fin 64) (k : Fin 576) (r : Fin 513)
    (hr : i (ix3 l k 0) = BitVec.ofNat 32 r.val) :
    Host.gather gather_S8x513_S64x576x1_S8x64x576_0_1_n_n_1_2_81 x i (ix3 h l k) = x (ix2 h r) := by
  unfold Host.gather
  congr 1
  funext a
  refine Fin.ext ?_
  show GatherDims.start _ (ix3 h l k) i a + GatherDims.batchCoord _ (ix3 h l k) a + GatherDims.offCoord _ (ix3 h l k) a = _
  have h01 : a = 0 ∨ a = 1 := by
    match a with
    | ⟨0, _⟩ => exact Or.inl rfl
    | ⟨1, _⟩ => exact Or.inr rfl
  rcases h01 with rfl | rfl
  · have e0 : GatherDims.start gather_S8x513_S64x576x1_S8x64x576_0_1_n_n_1_2_81 (ix3 h l k) i 0 = 0 := by
      unfold GatherDims.start; rw [dif_neg (by decide)]
    have e1 : GatherDims.batchCoord gather_S8x513_S64x576x1_S8x64x576_0_1_n_n_1_2_81 (ix3 h l k) 0 = 0 :=
      GatherDims.batchCoord_eq_zero _ _ _ List.not_mem_nil
    rw [e0, e1]
    show 0 + 0 + GatherDims.offCoord gather_S8x513_S64x576x1_S8x64x576_0_1_n_n_1_2_81 (ix3 h l k) 0 = h.val
    rw [Nat.zero_add]
    rfl
  · have e0 : GatherDims.start gather_S8x513_S64x576x1_S8x64x576_0_1_n_n_1_2_81 (ix3 h l k) i 1 = min (i (ix3 l k 0)).toInt.toNat 512 := by
      unfold GatherDims.start
      rw [dif_pos (show (1 : Fin 2) ∈ gather_S8x513_S64x576x1_S8x64x576_0_1_n_n_1_2_81.startIndexMap from List.mem_singleton.mpr rfl)]
      have hsi : GatherDims.siIdx gather_S8x513_S64x576x1_S8x64x576_0_1_n_n_1_2_81 (ix3 h l k) ⟨List.idxOf (1 : Fin 2) [1],
          List.idxOf_lt_length_iff.2 (List.mem_singleton.mpr rfl)⟩ = ix3 l k 0 := by
        funext b; refine Fin.ext ?_
        match b with
        | ⟨0, _⟩ => rfl
        | ⟨1, _⟩ => rfl
        | ⟨2, _⟩ => rfl
      exact congrArg (fun j => min (i j).toInt.toNat 512) hsi
    have e1 : GatherDims.batchCoord gather_S8x513_S64x576x1_S8x64x576_0_1_n_n_1_2_81 (ix3 h l k) 1 = 0 :=
      GatherDims.batchCoord_eq_zero _ _ _ List.not_mem_nil
    have e2 : GatherDims.offCoord gather_S8x513_S64x576x1_S8x64x576_0_1_n_n_1_2_81 (ix3 h l k) 1 = 0 :=
      GatherDims.offCoord_eq_zero _ _ _ (fun h => ((GatherDims.mem_sKept _ _).mp h).1 (List.mem_singleton.mpr rfl))
    have hlt := r.isLt
    have e3 : (BitVec.ofNat 32 r.val).toInt.toNat = r.val := by
      rw [BitVec.toInt_eq_toNat_of_lt (by rw [BitVec.toNat_ofNat]; omega), BitVec.toNat_ofNat, Int.toNat_natCast]; omega
    rw [e0, e1, e2, hr, e3]
    show min r.val 512 + 0 + 0 = r.val
    omega

theorem bias_at (r) (h : Fin 8) (l : Fin 64) (k : Fin 576) (j : Fin 513)
    (hj : relIdx (ix2 l k) = BitVec.ofNat 32 j.val) : bias r (ix3 h l k) = r (ix3 0 h j) := by
  unfold bias
  rw [gather_row _ _ h l k j (by pointwise; exact hj)]
  pointwise

theorem scores_at (q k r) (b : Fin 4) (c : Fin 64) (h : Fin 8) (l : Fin 64) (d : Fin 576) :
    scores q k r (ix5 b c h l d) = (∑ x : Fin 64, q (ix3 b ⟨c.val * 64 + l.val, by omega⟩ ⟨h.val * 64 + x.val, by omega⟩) * band k (ix5 b c d h x))
      * Ideal.ofBits FTy.f32 0x3E000000#32 + bias r (ix3 h l d) := by
  pointwise [scores]

theorem masked_at (s) (b : Fin 4) (c : Fin 64) (h : Fin 8) (l : Fin 64) (d : Fin 576) :
    masked s (ix5 b c h l d) = Scalar.select (valid (ix2 c d)) (s (ix5 b c h l d)) (⊥ : EReal) := by
  pointwise [masked]
  exact congrArg (Scalar.select (valid (ix2 c d)) (s (ix5 b c h l d))) minus_inf

/-- The score of query `s` and key `p` of head `h`, with bias row `j`. -/
def scoreOf (q k : FVec Ideal S4x4096x512 .f32) (r : FVec Ideal S2x8x513 .f32) (b : Fin 4) (s p : Fin 4096) (h : Fin 8) (j : Fin 513) : EReal :=
  (∑ x : Fin 64, (q (ix3 b s ⟨h.val * 64 + x.val, by omega⟩) : EReal) * k (ix3 b p ⟨h.val * 64 + x.val, by omega⟩))
    * Ideal.ofBits FTy.f32 0x3E000000#32 + r (ix3 0 h j)

/-- The masked score of a query and a band position. -/
abbrev sc (q k : FVec Ideal S4x4096x512 .f32) (r : FVec Ideal S2x8x513 .f32) (b : Fin 4) (c l : Fin 64) (h : Fin 8) (d : Fin 576) : EReal :=
  masked (scores q k r) (ix5 b c h l d)

theorem sc_in (q k r) (b : Fin 4) (c l : Fin 64) (h : Fin 8) (d : Fin 576) (s p : Fin 4096) (j : Fin 513)
    (hs : s.val = 64 * c.val + l.val) (hp : p.val + 512 = 64 * c.val + d.val) (hj : j.val = min 512 (768 + l.val - d.val)) :
    sc q k r b c l h d = scoreOf q k r b s p h j := by
  unfold sc scoreOf
  rw [masked_at, valid_at, if_pos (by omega), scores_at, bias_at r h l d j (by rw [relIdx_at, hj])]
  show _ * _ + _ = _
  refine congrArg (fun a : EReal => a * Ideal.ofBits FTy.f32 0x3E000000#32 + r (ix3 0 h j)) ?_
  refine Finset.sum_congr rfl fun x _ => ?_
  rw [band_at k b c d h x ⟨c.val + d.val / 64, by omega⟩ ⟨d.val % 64, by omega⟩ rfl rfl,
    padded_at k b _ _ h x p ⟨h.val * 64 + x.val, by omega⟩ (by show p.val + 512 = 64 * (c.val + d.val / 64) + d.val % 64; omega) rfl]
  exact congrArg (fun s' : Fin 4096 => (q (ix3 b s' _) : EReal) * k (ix3 b p _)) (Fin.ext (by show c.val * 64 + l.val = s.val; omega))

theorem sc_out (q k r) (b : Fin 4) (c l : Fin 64) (h : Fin 8) (d : Fin 576) (hp : 64 * c.val + d.val < 512) :
    sc q k r b c l h d = ⊥ := by
  unfold sc
  rw [masked_at, valid_at, if_neg (by omega)]
  rfl

/-- The attention's output: the values' mean under the weights of the masked scores. -/
theorem att_at (q k v r) (b : Fin 4) (s : Fin 4096) (x : Fin 512) (c l : Fin 64) (h : Fin 8) (d : Fin 64)
    (hs : s.val = 64 * c.val + l.val) (hx : x.val = 64 * h.val + d.val)
    (ht : ∀ i, sc q k r b c l h i ≠ ⊤) (he : ∃ i, sc q k r b c l h i ≠ ⊥) :
    att q k v r (ix3 b s x) = mean (fun i : Fin 576 => (band v (ix5 b c i h d) : EReal)) (fun i => we (sc q k r b c l h i)) := by
  unfold att
  rw [mixed_at _ _ b s x c l h d hs hx]
  simp only [probs_at, weights_at]
  exact whole (sc q k r b c l h) (fun i => band v (ix5 b c i h d)) ht he _ (rowMax_at _ b c h l)

theorem band_in (v) (b : Fin 4) (c : Fin 64) (i : Fin 576) (h : Fin 8) (d : Fin 64) (p : Fin 4096) (n : Fin 512)
    (hp : p.val + 512 = 64 * c.val + i.val) (hn : n.val = h.val * 64 + d.val) : band v (ix5 b c i h d) = v (ix3 b p n) := by
  rw [band_at v b c i h d ⟨c.val + i.val / 64, by omega⟩ ⟨i.val % 64, by omega⟩ rfl rfl]
  exact padded_at v b _ _ h d p n (by show p.val + 512 = 64 * (c.val + i.val / 64) + i.val % 64; omega) hn

end Cert.AttRef
end
end
-- ==== Proof.Att.Score.lean ====
module

public import proofs.«01_k».proof.Proof.Att.Finite
public import proofs.«01_k».proof.Proof.Att.Table
public import proofs.«01_k».proof.Proof.Att.Head
public import proofs.«01_k».proof.Proof.Att.Ref

/-!
# The kernel's scores and a head's rows

At a grid point, a sub tile and a head, the kernel's score of a key and a query is the reference's over the logarithm of
two within the band, and minus infinity outside it; so the head's rows are the reference's.
-/

@[expose] public section

set_option maxRecDepth 16384

noncomputable section
namespace Cert.KernelIdeal.Att

open Idealize.ShloMosaic Idealize.ShloMosaic.TcCoe Idealize.SL.Sem
open Idealize.ShloMosaic.Pipeline (Dat)
open Cert.KernelIdeal Cert.KernelIdeal.Gen Cert.Softmax
open scoped BigOperators

theorem rk_at (s : Fin 4) (a h : Fin 8) (j : Fin 5) (k x : Fin 128) (p : Fin 4096) (n : Fin 512)
    (hp : p.val = 128 * (8 * s.val + a.val - 4 + j.val) + k.val) (hn : n.val = h.val / 2 * 128 + x.val) :
    (rk s a h j).emb (ix3 0 k x) = (ix3 0 p n : S1x4096x512.Idx) := by
  funext i; refine Fin.ext ?_
  match i with
  | ⟨0, _⟩ => rfl
  | ⟨1, _⟩ => show keyN s.val a.val j.val + 1 * k.val = p.val; rw [keyN_eq s a j]; omega
  | ⟨2, _⟩ => show h.val / 2 * 128 + 1 * x.val = n.val; omega

theorem rq_at (a h : Fin 8) (y : Fin 64) (l : Fin 128) (n : Fin 512) (x : Fin 1024) (hn : n.val = 64 * h.val + y.val)
    (hx : x.val = 128 * a.val + l.val) : (rq a h).emb (ix2 y l) = (ix2 n x : S512x1024.Idx) := by
  funext i; refine Fin.ext ?_
  match i with
  | ⟨0, _⟩ => show 64 * h.val + 1 * y.val = n.val; omega
  | ⟨1, _⟩ => show 128 * a.val + 1 * l.val = x.val; omega

theorem rb_at (s : Fin 4) (a h : Fin 8) (j : Fin 5) (k l : Fin 128) (ρ : Fin 1152)
    (hρ : ρ.val = 512 - 128 * (8 * s.val + a.val - (8 * s.val + a.val - 4)) + 128 * j.val + k.val) :
    (rb s a h j).emb (ix3 0 k l) = (ix3 h ρ l : S8x1152x128.Idx) := by
  funext i; refine Fin.ext ?_
  match i with
  | ⟨0, _⟩ => show h.val + 1 * 0 = h.val; omega
  | ⟨1, _⟩ => show biasN s.val a.val j.val + 1 * k.val = ρ.val; rw [biasN_eq s a j]; omega
  | ⟨2, _⟩ => show 0 + 1 * l.val = l.val; omega

theorem rv_at (s : Fin 4) (a h : Fin 8) (j : Fin 5) (d : Fin 64) (k : Fin 128) (i : Fin 32) (n : Fin 512)
    (hi : i.val = 8 * s.val + a.val - 4 + j.val) (hn : n.val = 64 * h.val + d.val) :
    (rv s a h j).emb (ix4 0 0 d k) = (ix4 0 i n k : S1x32x512x128.Idx) := by
  funext b; refine Fin.ext ?_
  match b with
  | ⟨0, _⟩ => rfl
  | ⟨1, _⟩ => show valN s.val a.val j.val + 1 * 0 = i.val; rw [valN_eq s a j]; omega
  | ⟨2, _⟩ => show 64 * h.val + 1 * d.val = n.val; omega
  | ⟨3, _⟩ => show 0 + 1 * k.val = k.val; omega

/-- A head's queries over zeros, or under them. -/
def padOf (h : Fin 8) (q : Vec Ideal S64x128 .bf16) : FVec Ideal S128x128 .bf16 := if h.val % 2 = 0 then qEven q else qOdd q

variable (m : (ℓ : Loc nD τ sig) → Buf (Elt Ideal) ℓ)

/-- The padded queries of a sub tile's head at a grid point. -/
abbrev qAt (c : Dev nD) (t : Fin cfg0.N) (a h : Fin 8) : FVec Ideal S128x128 .bf16 := padOf h (View.ld (iblk m c 0 t) (rq a h))

/-- The product part of a score. -/
theorem score_at (c : Dev nD) (t : Fin cfg0.N) (s : Fin 4) (hs : s.val = t.val % 4) (a h : Fin 8) (j : Fin 5) (k l : Fin 128)
    (b : Fin 4) (hb : b.val = t.val / 4) (sr p : Fin 4096) (ρ : Fin 1152)
    (hsr : sr.val = 1024 * s.val + 128 * a.val + l.val)
    (hp : p.val = 128 * (8 * s.val + a.val - 4 + j.val) + k.val)
    (hρ : ρ.val = 512 - 128 * (8 * s.val + a.val - (8 * s.val + a.val - 4)) + 128 * j.val + k.val) :
    scoreAt s (iblk m c 1 t) (tab m c) a h (qAt m c t a h) j (ix2 k l)
      = (∑ y : Fin 64, (A1 m c (ix3 b p ⟨h.val * 64 + y.val, by omega⟩) : EReal)
          * ((A0 m c (ix3 b sr ⟨h.val * 64 + y.val, by omega⟩) : EReal) * Ideal.div lam (Ideal.ofBits FTy.f32 0x41000000#32)))
        + tableOf (iblk m c 3 t0) (ix3 h ρ l) := by
  have eb : View.ld (tab m c) (rb s a h j) (ix3 0 k l) = tableOf (iblk m c 3 t0) (ix3 h ρ l) := by
    show table (iblk m c 3 t0) ((rb s a h j).emb (ix3 0 k l)) = _
    rw [rb_at s a h j k l ρ hρ, table_at]
  have eq : ∀ y : Fin 64, (View.ld (iblk m c 0 t) (rq a h) (ix2 y l) : EReal)
      = (A0 m c (ix3 b sr ⟨h.val * 64 + y.val, by omega⟩) : EReal) * Ideal.div lam (Ideal.ofBits FTy.f32 0x41000000#32) := by
    intro y
    show (iblk m c 0 t ((rq a h).emb (ix2 y l)) : EReal) = _
    rw [rq_at a h y l ⟨h.val * 64 + y.val, by omega⟩ ⟨128 * a.val + l.val, by omega⟩ (by simp only; omega) rfl]
    exact q_at m c t _ _ b sr hb (by simp only; omega)
  have ek : ∀ (y : Fin 64) (x : Fin 128), h.val / 2 * 128 + x.val = h.val * 64 + y.val →
      (View.ld (iblk m c 1 t) (rk s a h j) (ix3 0 k x) : EReal) = A1 m c (ix3 b p ⟨h.val * 64 + y.val, by omega⟩) := by
    intro y x hx
    show (iblk m c 1 t ((rk s a h j).emb (ix3 0 k x)) : EReal) = _
    rw [rk_at s a h j k x p ⟨h.val * 64 + y.val, by omega⟩ hp (by simp only; omega)]
    exact k_at m c t _ _ b hb
  unfold scoreAt qAt padOf
  by_cases hh : h.val % 2 = 0
  · rw [if_pos hh, scoreEven_at, eb]
    refine congrArg (fun z : EReal => z + tableOf (iblk m c 3 t0) (ix3 h ρ l)) (Finset.sum_congr rfl fun y _ => ?_)
    rw [eq y, ek y ⟨y.val, by omega⟩ (by simp only; omega)]
  · rw [if_neg hh, scoreOdd_at, eb]
    refine congrArg (fun z : EReal => z + tableOf (iblk m c 3 t0) (ix3 h ρ l)) (Finset.sum_congr rfl fun y _ => ?_)
    rw [eq y, ek y ⟨64 + y.val, by omega⟩ (by simp only; omega)]

/-- What the precondition gives of the arguments. -/
structure Real3 (c : Dev nD) : Prop where
  q : ∀ i, ∃ x : ℝ, A0 m c i = (x : EReal)
  k : ∀ i, ∃ x : ℝ, A1 m c i = (x : EReal)
  r : ∀ h j, ∃ x : ℝ, A3 m c (ix3 0 h j) = (x : EReal)

theorem table_in (c : Dev nD) (h : Fin 8) (ρ : Fin 1152) (l : Fin 128) (hi : inBand ρ.val l.val) (j : Fin 513)
    (hj : j.val = min 512 (768 + l.val - ρ.val)) :
    tableOf (iblk m c 3 t0) (ix3 h ρ l) = (A3 m c (ix3 0 h j) : EReal) * lam := by
  have hi' := hi
  unfold inBand at hi'
  have hl := l.isLt
  unfold tableOf
  refine (if_pos (show inBand ρ.val l.val ∧ ρ.val < 640 from ⟨hi, by split_ifs at hi' <;> omega⟩)).trans ?_
  refine (row_at m c t0 h _).trans ?_
  rw [rows_eq]
  refine rows_at _ 0 h _ j ?_
  show j.val = if 256 ≤ (ρ.val + 1024 - l.val) % 1024 ∧ (ρ.val + 1024 - l.val) % 1024 < 640 then 768 - (ρ.val + 1024 - l.val) % 1024 else 512
  split_ifs at hi' ⊢ <;> omega

theorem table_out (c : Dev nD) (h : Fin 8) (ρ : Fin 1152) (l : Fin 128) (hi : ¬ inBand ρ.val l.val) :
    tableOf (iblk m c 3 t0) (ix3 h ρ l) = ⊥ := by
  unfold tableOf
  exact if_neg fun H => hi H.1

open Cert.AttRef in
/-- A score within the band. -/
theorem score_in (c : Dev nD) (R : Real3 m c) (t : Fin cfg0.N) (s : Fin 4) (hs : s.val = t.val % 4) (a h : Fin 8) (j : Fin 5)
    (k l : Fin 128) (b : Fin 4) (hb : b.val = t.val / 4) (sr p : Fin 4096) (ρ : Fin 1152) (r : Fin 513)
    (hsr : sr.val = 1024 * s.val + 128 * a.val + l.val)
    (hp : p.val = 128 * (8 * s.val + a.val - 4 + j.val) + k.val)
    (hρ : ρ.val = 512 - 128 * (8 * s.val + a.val - (8 * s.val + a.val - 4)) + 128 * j.val + k.val)
    (hi : inBand ρ.val l.val) (hr : r.val = min 512 (768 + l.val - ρ.val)) :
    ∃ x : ℝ, scoreOf (A0 m c) (A1 m c) (A3 m c) b sr p h r = (x : EReal)
      ∧ scoreAt s (iblk m c 1 t) (tab m c) a h (qAt m c t a h) j (ix2 k l) = ((x * (1 / Real.log 2) : ℝ) : EReal) := by
  rw [score_at m c t s hs a h j k l b hb sr p ρ hsr hp hρ, table_in m c h ρ l hi r hr]
  exact score_real (fun y : Fin 64 => A0 m c (ix3 b sr ⟨h.val * 64 + y.val, by omega⟩))
    (fun y : Fin 64 => A1 m c (ix3 b p ⟨h.val * 64 + y.val, by omega⟩)) _ (fun y => R.q _) (fun y => R.k _) (R.r h r)

/-- A score outside the band. -/
theorem score_out (c : Dev nD) (R : Real3 m c) (t : Fin cfg0.N) (s : Fin 4) (hs : s.val = t.val % 4) (a h : Fin 8) (j : Fin 5)
    (k l : Fin 128) (hi : ¬ inBand (512 - 128 * (8 * s.val + a.val - (8 * s.val + a.val - 4)) + 128 * j.val + k.val) l.val) :
    scoreAt s (iblk m c 1 t) (tab m c) a h (qAt m c t a h) j (ix2 k l) = (⊥ : EReal) := by
  have ht : t.val < 16 := lt_of_lt_of_eq t.isLt N_0
  have hj := j.isLt
  rw [score_at m c t s hs a h j k l ⟨t.val / 4, by omega⟩ rfl ⟨1024 * s.val + 128 * a.val + l.val, by omega⟩
    ⟨128 * (8 * s.val + a.val - 4 + j.val) + k.val, by omega⟩
    ⟨512 - 128 * (8 * s.val + a.val - (8 * s.val + a.val - 4)) + 128 * j.val + k.val, by omega⟩ rfl rfl rfl,
    table_out m c h _ l hi]
  exact EReal.add_bot _

theorem value_at (c : Dev nD) (t : Fin cfg0.N) (s : Fin 4) (a h : Fin 8) (j : Fin 5) (d : Fin 64) (k : Fin 128)
    (b : Fin 4) (hb : b.val = t.val / 4) (p : Fin 4096) (n : Fin 512)
    (hp : p.val = 128 * (8 * s.val + a.val - 4 + j.val) + k.val) (hn : n.val = h.val * 64 + d.val) :
    (View.ld (iblk m c 2 t) (rv s a h j) (ix4 0 0 d k) : EReal) = A2 m c (ix3 b p n) := by
  have hj := j.isLt
  show (iblk m c 2 t ((rv s a h j).emb (ix4 0 0 d k)) : EReal) = _
  rw [rv_at s a h j d k ⟨8 * s.val + a.val - 4 + j.val, by omega⟩ n rfl (by omega)]
  exact v_at m c t _ _ _ b p hb (by simp only; omega)

open Cert.AttRef in
/-- A head's rows are the reference's. -/
theorem head_at (c : Dev nD) (R : Real3 m c) (t : Fin cfg0.N) (s : Fin 4) (hs : s.val = t.val % 4) (a h : Fin 8)
    (d : Fin 64) (l : Fin 128) (b : Fin 4) (hb : b.val = t.val / 4) (sr : Fin 4096) (x : Fin 512)
    (hsr : sr.val = 1024 * s.val + 128 * a.val + l.val) (hx : x.val = 64 * h.val + d.val) :
    headAt s (iblk m c 1 t) (iblk m c 2 t) (tab m c) a h (qAt m c t a h) (ix2 d l)
      = att (A0 m c) (A1 m c) (A2 m c) (A3 m c) (ix3 b sr x) := by
  obtain ⟨β, hβ⟩ : ∃ β : Nat, β = if 64 ≤ l.val then 64 else 0 := ⟨_, rfl⟩
  have hβl : (β = 64 ∧ 64 ≤ l.val) ∨ (β = 0 ∧ l.val < 64) := by
    rw [hβ]; split_ifs with h
    · exact .inl ⟨rfl, h⟩
    · exact .inr ⟨rfl, by omega⟩
  have band : ∀ r : Nat, inBand r l.val ↔ β ≤ r ∧ r < β + 576 := by intro r; unfold inBand; rw [hβ]
  obtain ⟨cc, hcc⟩ : ∃ cc : Fin 64, 64 * cc.val = 128 * (8 * s.val + a.val) + β :=
    ⟨⟨2 * (8 * s.val + a.val) + β / 64, by omega⟩, by simp only; omega⟩
  obtain ⟨l', hl'⟩ : ∃ l' : Fin 64, l'.val + β = l.val := ⟨⟨l.val - β, by omega⟩, by simp only; omega⟩
  have hs' : sr.val = 64 * cc.val + l'.val := by omega
  obtain ⟨sh, hsh⟩ : ∃ sh : Nat, sh = 512 - 128 * (8 * s.val + a.val - (8 * s.val + a.val - 4)) := ⟨_, rfl⟩
  -- a position of the window that is a position of the reference's band
  have both : ∀ (kb : Fin 576) (i : Fin 5 × Fin 128), 128 * i.1.val + i.2.val + sh = kb.val + β →
      ∃ y : ℝ, sc (A0 m c) (A1 m c) (A3 m c) b cc l' h kb = (y : EReal)
        ∧ scoreAt s (iblk m c 1 t) (tab m c) a h (qAt m c t a h) i.1 (ix2 i.2 l) = ((y * (1 / Real.log 2) : ℝ) : EReal)
        ∧ (View.ld (iblk m c 2 t) (rv s a h i.1) (ix4 0 0 d i.2) : EReal) = Cert.AttRef.band (A2 m c) (ix5 b cc kb h d) := by
    intro kb i e
    have hi := i.1.isLt
    have hi2 := i.2.isLt
    obtain ⟨p, hp⟩ : ∃ p : Fin 4096, p.val = 128 * (8 * s.val + a.val - 4 + i.1.val) + i.2.val := ⟨⟨_, by omega⟩, rfl⟩
    obtain ⟨ρ, hρ⟩ : ∃ ρ : Fin 1152, ρ.val = 512 - 128 * (8 * s.val + a.val - (8 * s.val + a.val - 4)) + 128 * i.1.val + i.2.val :=
      ⟨⟨_, by omega⟩, rfl⟩
    obtain ⟨r, hr⟩ : ∃ r : Fin 513, r.val = min 512 (768 + l.val - ρ.val) := ⟨⟨_, by omega⟩, rfl⟩
    obtain ⟨y, h1, h2⟩ := score_in m c R t s hs a h i.1 i.2 l b hb sr p ρ r hsr hp hρ ((band _).2 (by omega)) hr
    have hpk : p.val + 512 = 64 * cc.val + kb.val := by omega
    refine ⟨y, ?_, h2, ?_⟩
    · rw [← h1]
      exact sc_in _ _ _ b cc l' h kb sr p r hs' hpk (by omega)
    · rw [value_at m c t s a h i.1 d i.2 b hb p x hp (by omega)]
      exact (band_in _ b cc kb h d p x hpk (by omega)).symm
  -- the window's positions outside the band
  have out : ∀ i : Fin 5 × Fin 128, ¬ (β ≤ 128 * i.1.val + i.2.val + sh ∧ 128 * i.1.val + i.2.val + sh < β + 576) →
      scoreAt s (iblk m c 1 t) (tab m c) a h (qAt m c t a h) i.1 (ix2 i.2 l) = (⊥ : EReal) := by
    intro i hi
    refine score_out m c R t s hs a h i.1 i.2 l fun H => hi ?_
    have := (band _).1 H
    omega
  -- the band's positions before the first key
  have early : ∀ kb : Fin 576, kb.val + β < sh → sc (A0 m c) (A1 m c) (A3 m c) b cc l' h kb = ⊥ := by
    intro kb hk
    exact sc_out _ _ _ b cc l' h kb (by omega)
  have back : ∀ kb : Fin 576, ¬ kb.val + β < sh → ∃ i : Fin 5 × Fin 128, 128 * i.1.val + i.2.val + sh = kb.val + β := by
    intro kb hk
    have := kb.isLt
    exact ⟨(⟨(kb.val + β - sh) / 128, by omega⟩, ⟨(kb.val + β - sh) % 128, by omega⟩), by simp only; omega⟩
  have fwd : ∀ i : Fin 5 × Fin 128, (β ≤ 128 * i.1.val + i.2.val + sh ∧ 128 * i.1.val + i.2.val + sh < β + 576) →
      ∃ kb : Fin 576, 128 * i.1.val + i.2.val + sh = kb.val + β := fun i hi =>
    ⟨⟨128 * i.1.val + i.2.val + sh - β, by omega⟩, by simp only; omega⟩
  have last : ¬ (575 : Nat) + β < sh := by omega
  obtain ⟨i0, hi0⟩ := back ⟨575, by omega⟩ last
  obtain ⟨y0, hy0, hz0, -⟩ := both _ _ hi0
  unfold headAt
  refine (headOf_at (fun j => scoreAt s (iblk m c 1 t) (tab m c) a h (qAt m c t a h) j)
    (fun j => View.ld (iblk m c 2 t) (rv s a h j)) d l ?_ ?_).trans ?_
  · intro j k
    by_cases hi : β ≤ 128 * j.val + k.val + sh ∧ 128 * j.val + k.val + sh < β + 576
    · obtain ⟨kb, hkb⟩ := fwd (j, k) hi
      obtain ⟨y, -, hz, -⟩ := both kb (j, k) hkb
      rw [hz]; exact EReal.coe_ne_top _
    · rw [out (j, k) hi]; exact bot_ne_top
  · exact ⟨i0.1, i0.2, by rw [hz0]; exact EReal.coe_ne_bot _⟩
  rw [att_at _ _ _ _ b sr x cc l' h d hs' hx]
  rotate_left
  · intro kb
    by_cases hk : kb.val + β < sh
    · rw [early kb hk]; exact bot_ne_top
    · obtain ⟨i, hi⟩ := back kb hk
      obtain ⟨y, hy, -, -⟩ := both kb i hi
      rw [hy]; exact EReal.coe_ne_top _
  · exact ⟨_, by rw [hy0]; exact EReal.coe_ne_bot _⟩
  refine mean_match _ _ _ _ ((β : ℤ) - sh) ?_ ?_ ?_
  · intro kb i e
    obtain ⟨y, hy, hz, hv⟩ := both kb i (by omega)
    refine ⟨hv, ?_⟩
    simp only [hy, hz]
    exact wt_div y
  · intro kb hk
    have := kb.isLt
    simp only [early kb (by omega), we_bot]
  · intro i hi
    have := i.1.isLt
    simp only [out i (by omega), wt_bot]

end Cert.KernelIdeal.Att
end
end
-- ==== Proof.Att.Value.lean ====
module

public import proofs.«01_k».proof.Proof.Att.Score
public import proofs.«01_k».proof.Proof.Att.RefDefs

/-!
# The attention's result

A grid point's block is the reference's rows it covers, and the array the call leaves is the reference's.
-/

@[expose] public section

set_option maxRecDepth 16384

noncomputable section
namespace Cert.KernelIdeal.Att

open Idealize.ShloMosaic Idealize.ShloMosaic.TcCoe Idealize.SL.Sem
open Idealize.ShloMosaic.Pipeline (Dat)
open Cert.KernelIdeal Cert.KernelIdeal.Gen Cert.Softmax
open scoped BigOperators

/-- The heads side by side, at a lane and a column. -/
theorem join_at (hd : Fin 8 → FVec Ideal S64x128 .f32) (l : Fin 128) (x : Fin 512) (g : Fin 8) (d : Fin 64)
    (hx : x.val = 64 * g.val + d.val) :
    joinOf (hd 0) (hd 1) (hd 2) (hd 3) (hd 4) (hd 5) (hd 6) (hd 7) (ix3 0 l x) = hd g (ix2 d l) := by
  have e : ∀ (g' : Fin 8) (d' : Fin 64), 64 * g'.val + d'.val = x.val → hd g' (ix2 d' l) = hd g (ix2 d l) := by
    intro g' d' h
    obtain rfl : g' = g := Fin.ext (by omega)
    obtain rfl : d' = d := Fin.ext (by omega)
    rfl
  have hxl := x.isLt
  pointwise [joinOf]
  by_cases h0 : x.val < 64
  · rw [dif_pos h0]; exact e 0 ⟨x.val, h0⟩ (by simp only; omega)
  rw [dif_neg h0]
  by_cases h1 : x.val - 64 < 64
  · rw [dif_pos h1]; exact e 1 ⟨x.val - 64, h1⟩ (by simp only; omega)
  rw [dif_neg h1]
  by_cases h2 : x.val - 64 - 64 < 64
  · rw [dif_pos h2]; exact e 2 ⟨x.val - 64 - 64, h2⟩ (by simp only; omega)
  rw [dif_neg h2]
  by_cases h3 : x.val - 64 - 64 - 64 < 64
  · rw [dif_pos h3]; exact e 3 ⟨x.val - 64 - 64 - 64, h3⟩ (by simp only; omega)
  rw [dif_neg h3]
  by_cases h4 : x.val - 64 - 64 - 64 - 64 < 64
  · rw [dif_pos h4]; exact e 4 ⟨x.val - 64 - 64 - 64 - 64, h4⟩ (by simp only; omega)
  rw [dif_neg h4]
  by_cases h5 : x.val - 64 - 64 - 64 - 64 - 64 < 64
  · rw [dif_pos h5]; exact e 5 ⟨x.val - 64 - 64 - 64 - 64 - 64, h5⟩ (by simp only; omega)
  rw [dif_neg h5]
  by_cases h6 : x.val - 64 - 64 - 64 - 64 - 64 - 64 < 64
  · rw [dif_pos h6]; exact e 6 ⟨x.val - 64 - 64 - 64 - 64 - 64 - 64, h6⟩ (by simp only; omega)
  rw [dif_neg h6]
  exact e 7 ⟨x.val - 64 - 64 - 64 - 64 - 64 - 64 - 64, by omega⟩ (by simp only; omega)

variable (m : (ℓ : Loc nD τ sig) → Buf (Elt Ideal) ℓ)

open Cert.AttRef in
/-- A sub tile's rows are the reference's. -/
theorem sub_at (c : Dev nD) (R : Real3 m c) (t : Fin cfg0.N) (s : Fin 4) (hs : s.val = t.val % 4) (a : Fin 8)
    (l : Fin 128) (x : Fin 512) (b : Fin 4) (hb : b.val = t.val / 4) (sr : Fin 4096)
    (hsr : sr.val = 1024 * s.val + 128 * a.val + l.val) :
    subAt s (iblk m c 0 t) (iblk m c 1 t) (iblk m c 2 t) (tab m c) a (ix3 0 l x)
      = att (A0 m c) (A1 m c) (A2 m c) (A3 m c) (ix3 b sr x) := by
  refine (join_at (fun h => headAt s (iblk m c 1 t) (iblk m c 2 t) (tab m c) a h (qAt m c t a h)) l x
    ⟨x.val / 64, by omega⟩ ⟨x.val % 64, by omega⟩ (by simp only; omega)).trans ?_
  exact head_at m c R t s hs a _ _ l b hb sr x hsr (by simp only; omega)

theorem coord_val : ∀ t : Fin cfg0.N, (grid0.coords t 1).val = t.val % 4 := by
  exact (by decide +kernel : ∀ t : Fin grid0.N, (grid0.coords t 1).val = t.val % 4)

open Cert.AttRef in
/-- A grid point's block. -/
theorem out_at (c : Dev nD) (R : Real3 m c) (t : Fin cfg0.N) (b : Fin 4) (hb : b.val = t.val / 4) (y : S1x1024x512.Idx) :
    outAt m c t y = att (A0 m c) (A1 m c) (A2 m c) (A3 m c)
      (ix3 b ⟨t.val % 4 * 1024 + (y 1).val, by have := (y 1).isLt; change _ < 1024 at this; omega⟩ (y 2)) := by
  unfold outAt outBlk
  refine View.canon_eq_of_allAt _ y _ (outCover _ y) ?_
  have key : ∀ (a : Fin 8) (x : S1x128x512.Idx), (ro a).emb x = y → subAt (grid0.coords t 1) (iblk m c 0 t) (iblk m c 1 t) (iblk m c 2 t) (tab m c) a x
      = att (A0 m c) (A1 m c) (A2 m c) (A3 m c)
          (ix3 b ⟨t.val % 4 * 1024 + (y 1).val, by have := (y 1).isLt; change _ < 1024 at this; omega⟩ (y 2)) := by
    intro a x e
    obtain ⟨x0, l, n, rfl⟩ : ∃ (x0 : Fin 1) (l : Fin 128) (n : Fin 512), x = ix3 x0 l n := ⟨x 0, x 1, x 2, eq_ix3 x⟩
    obtain rfl : x0 = 0 := Subsingleton.elim _ _
    have e1 : (y 1).val = 128 * a.val + 1 * l.val := by rw [← e]; rfl
    have e2 : (y 2) = n := by rw [← e]; exact Fin.ext (show 0 + 1 * n.val = n.val by omega)
    rw [e2]
    exact sub_at m c R t _ (coord_val t) a l n b hb _ (by rw [coord_val t]; simp only; omega)
  intro p hp x hx
  simp only [outPieces, List.mem_cons, List.not_mem_nil, or_false] at hp
  rcases hp with rfl | rfl | rfl | rfl | rfl | rfl | rfl | rfl
  · exact key 7 x hx
  · exact key 6 x hx
  · exact key 5 x hx
  · exact key 4 x hx
  · exact key 3 x hx
  · exact key 2 x hx
  · exact key 1 x hx
  · exact key 0 x hx

open Cert.AttRef in
/-- The array the call leaves is the reference's result. -/
theorem final (c : Dev nD) (R : Real3 m c) : (dats m 0 c).arrAt 4 (cfgs 0).N
    = (att (A0 m c) (A1 m c) (A2 m c) (A3 m c) : FVec Ideal S4x4096x512 .bf16) := by
  refine (dats m 0 c).arrAt_eq_of_covers 4 _ (by decide +kernel) fun t hf y => ?_
  have ht : t.val < 16 := lt_of_lt_of_eq t.isLt N_0
  blk_simp; rw [after_4]; frame_out
  refine (out_at m c R t ⟨t.val / 4, by omega⟩ rfl y).trans ?_
  congr 1
  blk_ext [idx_val t]

end Cert.KernelIdeal.Att
end
end
-- ==== Proof.Att.SecondA.lean ====
module

public import proofs.«01_k».proof.Proof.Att.Body
public import proofs.«01_k».proof.Proof.Gen.Kernel4Ideal.Frame
public import proofs.«01_k».proof.Proof.Gen.Kernel4Ideal.Skeleton

/-!
# The run of one grid point of the second layer's attention

The second layer's call is a program of its own: its body is the first layer's, over another window of biases. It is run
here up to the same values and blocks.
-/

@[expose] public section

set_option maxRecDepth 16384

noncomputable section

namespace Cert.Kernel4Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal.Gen
open Cert.KernelIdeal.Att (table tableCover outBlk outCover subAt Part6 firstPoint meet meetVal meet_run Part6Spec BodySpec)

variable {F : FTy → Type} [FloatOps F] [Named F]

local notation "𝕄" => MT nD τ sig Unit (Elt F) ℕ (UR sig nD τ) ℕ

set_option maxHeartbeats 0 in
theorem part6_first (c : Dev nD) (i : grid0.Coords) (arg2 : Memref sig .tc .vmem S512x1024 .bf16) (harg2 : arg2.IsWhole) (arg3 : Memref sig .tc .vmem S1x4096x512 .bf16) (harg3 : arg3.IsWhole) (arg4 : Memref sig .tc .vmem S1x32x512x128 .bf16) (harg4 : arg4.IsWhole) (arg5 : Memref sig .tc .vmem S1x8x1024 .f32) (harg5 : arg5.IsWhole) (arg6 : Memref sig .tc .vmem S1x1024x512 .bf16) (harg6 : arg6.IsWhole) (arg7 : Memref sig .tc .vmem S8x1152x128 .f32) (harg7 : arg7.IsWhole)
    (hc0 : firstPoint i)
    (x0 : Vec F S512x1024 .bf16) (x1 : Vec F S1x4096x512 .bf16) (x3 : Vec F S1x8x1024 .f32)
    (E : Set ℕ) (K : Part6 F → sProp 𝕄) :
    iprop(owns (c : Thread nD τ) arg2 fullShare x0 ∗ owns (c : Thread nD τ) arg3 fullShare x1 ∗ owns (c : Thread nD τ) arg5 fullShare x3 ∗ (∃ d, owns (c : Thread nD τ) arg7 fullShare d) ∗ (iprop(owns (c : Thread nD τ) arg2 fullShare x0 ∗ owns (c : Thread nD τ) arg3 fullShare x1 ∗ owns (c : Thread nD τ) arg5 fullShare x3 ∗ owns (c : Thread nD τ) arg7 fullShare (table x3)) -∗ K (meetVal i x0 x1 (table x3))))
     ⊢ wp frame (wpE (defs₀ (F := F)) Variants.none c none) E (k0_part6 i arg2 harg2 arg3 harg3 arg4 harg4 arg5 harg5 arg6 harg6 arg7 harg7) K := by
  rw [k0_part6_eq_skeleton]; unfold k0_part6_skel
  lift_lets
  extract_lets a0 a1 v0 v1 v2 v3 v4 v7 v8 v9 v10 v11 v12 v13 v14 v15 v16 jp
  obtain ⟨J, hJ⟩ : ∃ J, J = jp := ⟨_, rfl⟩
  rw [← hJ]
  rw [dif_pos hc0]
  unfold owns
  iintro ⟨⟨%f0, %hf0, H0⟩, ⟨%f1, %hf1, H1⟩, ⟨%f3, %hf3, H3⟩, ⟨%ds0, %fs0, -, HS0⟩, Hk⟩
  subst hf0 hf1 hf3
  simp only [k0_part1_eq_skeleton, k0_part2_eq_skeleton, k0_part3_eq_skeleton, k0_part4_eq_skeleton, k0_part5_eq_skeleton]
  sl_exec
  have hm : J PUnit.unit = meet i arg2 arg3 arg7 := by rw [hJ]; rfl
  rw [hm]
  iapply (meet_run defs₀ c i arg2 arg3 arg5 arg7 (arg2.view.read (Elt F) f0) (arg3.view.read (Elt F) f1) (arg5.view.read (Elt F) f3)
    (table (arg5.view.read (Elt F) f3)) E K)
  unfold owns
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  isplitl [HS0]
  · iexists _; isplitr
    swap
    · iexact HS0
    ipureintro
    exact View.read_writes_eq_canon _ _ _ (tableCover (arg5.view.read (Elt F) f3))
  iexact Hk

end Cert.Kernel4Ideal.Att
-- ==== Proof.Att.SecondB.lean ====
module

public import proofs.«01_k».proof.Proof.Att.Body
public import proofs.«01_k».proof.Proof.Gen.Kernel4Ideal.Frame
public import proofs.«01_k».proof.Proof.Gen.Kernel4Ideal.Skeleton

/-!
# The run of one grid point of the second layer's attention

The second layer's call is a program of its own: its body is the first layer's, over another window of biases. It is run
here up to the same values and blocks.
-/

@[expose] public section

set_option maxRecDepth 16384

noncomputable section

namespace Cert.Kernel4Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal.Gen
open Cert.KernelIdeal.Att (table tableCover outBlk outCover subAt Part6 firstPoint meet meetVal meet_run Part6Spec BodySpec)

variable {F : FTy → Type} [FloatOps F] [Named F]

local notation "𝕄" => MT nD τ sig Unit (Elt F) ℕ (UR sig nD τ) ℕ

theorem part6_later (c : Dev nD) (i : grid0.Coords) (arg2 : Memref sig .tc .vmem S512x1024 .bf16) (harg2 : arg2.IsWhole) (arg3 : Memref sig .tc .vmem S1x4096x512 .bf16) (harg3 : arg3.IsWhole) (arg4 : Memref sig .tc .vmem S1x32x512x128 .bf16) (harg4 : arg4.IsWhole) (arg5 : Memref sig .tc .vmem S1x8x1024 .f32) (harg5 : arg5.IsWhole) (arg6 : Memref sig .tc .vmem S1x1024x512 .bf16) (harg6 : arg6.IsWhole) (arg7 : Memref sig .tc .vmem S8x1152x128 .f32) (harg7 : arg7.IsWhole)
    (hc0 : ¬ firstPoint i)
    (x0 : Vec F S512x1024 .bf16) (x1 : Vec F S1x4096x512 .bf16) (x3 : Vec F S1x8x1024 .f32) (B : Vec F S8x1152x128 .f32)
    (E : Set ℕ) (K : Part6 F → sProp 𝕄) :
    iprop(owns (c : Thread nD τ) arg2 fullShare x0 ∗ owns (c : Thread nD τ) arg3 fullShare x1 ∗ owns (c : Thread nD τ) arg5 fullShare x3 ∗ owns (c : Thread nD τ) arg7 fullShare B ∗ (iprop(owns (c : Thread nD τ) arg2 fullShare x0 ∗ owns (c : Thread nD τ) arg3 fullShare x1 ∗ owns (c : Thread nD τ) arg5 fullShare x3 ∗ owns (c : Thread nD τ) arg7 fullShare B) -∗ K (meetVal i x0 x1 B)))
     ⊢ wp frame (wpE (defs₀ (F := F)) Variants.none c none) E (k0_part6 i arg2 harg2 arg3 harg3 arg4 harg4 arg5 harg5 arg6 harg6 arg7 harg7) K := by
  rw [k0_part6_eq_skeleton]; unfold k0_part6_skel
  lift_lets
  extract_lets a0 a1 v0 v1 v2 v3 v4 v7 v8 v9 v10 v11 v12 v13 v14 v15 v16 jp
  rw [dif_neg hc0]
  have hm : jp PUnit.unit = meet i arg2 arg3 arg7 := rfl
  exact meet_run defs₀ c i arg2 arg3 arg5 arg7 x0 x1 x3 B E K

set_option maxHeartbeats 0 in
theorem body_run (c : Dev nD) (i : grid0.Coords) (arg2 : Memref sig .tc .vmem S512x1024 .bf16) (harg2 : arg2.IsWhole) (arg3 : Memref sig .tc .vmem S1x4096x512 .bf16) (harg3 : arg3.IsWhole) (arg4 : Memref sig .tc .vmem S1x32x512x128 .bf16) (harg4 : arg4.IsWhole) (arg5 : Memref sig .tc .vmem S1x8x1024 .f32) (harg5 : arg5.IsWhole) (arg6 : Memref sig .tc .vmem S1x1024x512 .bf16) (harg6 : arg6.IsWhole) (arg7 : Memref sig .tc .vmem S8x1152x128 .f32) (harg7 : arg7.IsWhole)
    (x0 : Vec F S512x1024 .bf16) (x1 : Vec F S1x4096x512 .bf16) (x2 : Vec F S1x32x512x128 .bf16) (x3 : Vec F S1x8x1024 .f32)
    (B : Vec F S8x1152x128 .f32) (T : sProp 𝕄) (E : Set ℕ)
    (hT : Part6Spec defs₀ (k0_part6 i arg2 harg2 arg3 harg3 arg4 harg4 arg5 harg5 arg6 harg6 arg7 harg7) c i arg2 arg3 arg5 arg7 x0 x1 x3 B T E) :
    BodySpec (F := F) defs₀ (cc0_band_attn i arg2 harg2 arg3 harg3 arg4 harg4 arg5 harg5 arg6 harg6 arg7 harg7) c i arg2 arg3 arg4 arg5 arg6 arg7 x0 x1 x2 x3 B T E := by
  intro K
  simp only [cc0_band_attn_eq_skeleton]; unfold cc0_band_attn_skel
  rw [wp_bind, k0_part235_eq_skeleton]; unfold k0_part235_skel
  rw [wp_bind]
  iintro ⟨H0, H1, H2, H3, H6, HT, Hk⟩
  iapply (hT _)
  isplitl [H0]
  · iexact H0
  isplitl [H1]
  · iexact H1
  isplitl [H3]
  · iexact H3
  isplitl [HT]
  · iexact HT
  iintro ⟨H0, H1, H3, H7⟩
  unfold meetVal
  dsimp only
  unfold owns
  icases H0 with ⟨%f0, %hf0, H0⟩
  icases H1 with ⟨%f1, %hf1, H1⟩
  icases H2 with ⟨%f2, %hf2, H2⟩
  icases H3 with ⟨%f3, %hf3, H3⟩
  icases H6 with ⟨%d6, %f6, -, H6⟩
  icases H7 with ⟨%f7, %hf7, H7⟩
  subst hf0 hf1 hf2 hf3 hf7
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap
    · iexact H6
    ipureintro
    exact View.read_writes_eq_canon _ _ _ (outCover (subAt (i 1) (arg2.view.read (Elt F) f0) (arg3.view.read (Elt F) f1)
      (arg4.view.read (Elt F) f2) (arg7.view.read (Elt F) f7)))
  iexists f7; isplitr; · ipureintro; rfl
  iexact H7

end Cert.Kernel4Ideal.Att
-- ==== Proof.Att.SecondFrame.lean ====
module

public import proofs.«01_k».proof.Proof.Att.Frame
public import proofs.«01_k».proof.Proof.Att.SecondA
public import proofs.«01_k».proof.Proof.Att.SecondB

/-!
# The run of the second layer's attention

The second layer's call has the first layer's body and differs in the row of biases its window reads.
-/

@[expose] public section

set_option maxRecDepth 16384

noncomputable section

namespace Cert.Kernel4Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen
open Cert.KernelIdeal.Att (table outBlk firstPoint_iff step)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point. -/
def t0 : Fin cfg0.N := ⟨0, by rw [show cfg0.N = 16 from N_0]; decide⟩

/-- The relative biases' block is the same at every point. -/
theorem iblk3 (c : Dev nD) (t : Fin cfg0.N) : iblk m c 3 t = iblk m c 3 t0 := rfl

/-- The table the first point leaves. -/
def tab (c : Dev nD) : Vec F S8x1152x128 .f32 := table (iblk m c 3 t0)

abbrev ms0 (t : Fin cfg0.N) : Memref sig .tc .vmem S512x1024 .bf16 := win0_0.stage (cfg0.slots t 0)
abbrev ms1 (t : Fin cfg0.N) : Memref sig .tc .vmem S1x4096x512 .bf16 := win0_1.stage (cfg0.slots t 1)
abbrev ms2 (t : Fin cfg0.N) : Memref sig .tc .vmem S1x32x512x128 .bf16 := win0_2.stage (cfg0.slots t 2)
abbrev ms3 (t : Fin cfg0.N) : Memref sig .tc .vmem S1x8x1024 .f32 := win0_3.stage (cfg0.slots t 3)
abbrev ms4 (t : Fin cfg0.N) : Memref sig .tc .vmem S1x1024x512 .bf16 := win0_4.stage (cfg0.slots t 4)

/-- The scratch buffer that holds the table. -/
abbrev scM : Memref sig .tc .vmem S8x1152x128 .f32 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; rfl

/-- What a grid point leaves in its block of the output. -/
def outAt (c : Dev nD) (t : Fin cfg0.N) : Vec F S1x1024x512 .bf16 :=
  outBlk (grid0.coords t 1) (iblk m c 0 t) (iblk m c 1 t) (iblk m c 2 t) (tab m c)

/-- What holds between points: the table in the scratch buffer, once the first point is past. -/
def inv (c : Dev nD) (n : Nat) : sProp 𝕄 :=
  if n = 0 then Pipeline.ΦA spec0 c else iprop(owns (c : Thread nD τ) scM fullShare (tab m c) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4,
    show (dats m 0 c).Φ t.castSucc = inv m c t.val from rfl,
    show (dats m 0 c).Φ t.succ = inv m c (t.val + 1) from rfl,
    show inv m c (t.val + 1) = iprop(owns (c : Thread nD τ) scM fullShare (tab m c) ∗ (∃ r, prngReg c r)) from if_neg (by omega)]
  by_cases h0 : t.val = 0
  · rw [show inv m c t.val = Pipeline.ΦA spec0 c from if_pos h0, PhiA_eq]
    exact step _ _ c (grid0.coords t) _ _ _ _ _ (iblk m c 0 t) (iblk m c 1 t) (iblk m c 2 t) (iblk m c 3 t) (tab m c) _
      (body_run c (grid0.coords t) _ _ _ _ _ _ _ _ _ _ _ _ _ _ _ _ _ _ _
        fun K => part6_first c (grid0.coords t) _ _ _ _ _ _ _ _ _ _ _ _ ((firstPoint_iff t).mpr h0) _ _ _ Set.univ K) _ _
  · rw [show inv m c t.val = iprop(owns (c : Thread nD τ) scM fullShare (tab m c) ∗ (∃ r, prngReg c r)) from if_neg h0]
    exact step _ _ c (grid0.coords t) _ _ _ _ _ (iblk m c 0 t) (iblk m c 1 t) (iblk m c 2 t) (iblk m c 3 t) (tab m c) _
      (body_run c (grid0.coords t) _ _ _ _ _ _ _ _ _ _ _ _ _ _ _ _ _ _ _
        fun K => part6_later c (grid0.coords t) _ _ _ _ _ _ _ _ _ _ _ _ (fun h => h0 ((firstPoint_iff t).mp h)) _ _ _ _ Set.univ K) _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_out (c : Dev nD) : (dats m 0 c).Φ (Fin.last cfg0.N) ⊢ Pipeline.ΦA spec0 c := by
  rw [show (dats m 0 c).Φ (Fin.last cfg0.N) = inv m c cfg0.N from rfl, show cfg0.N = 16 from N_0,
    show inv m c 16 = iprop(owns (c : Thread nD τ) scM fullShare (tab m c) ∗ (∃ r, prngReg c r)) from if_neg (by decide), PhiA_eq]
  iintro ⟨H, Hg⟩
  isplitl [H]
  · iexists _; iexact H
  iexact Hg

set_option backward.isDefEq.respectTransparency.types false in
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := inv_out m) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- Every run ends, the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel4Ideal.Att
-- ==== Proof.Att.SecondRef.lean ====
module

public import proofs.«01_k».proof.Proof.Att.RefDefs
public import proofs.«01_k».proof.Proof.Gen.Reference4Ideal.Run

/-!
# The reference of the second layer's attention

It is the first layer's, given a table of biases that holds the second layer's in the first layer's place.
-/

@[expose] public section

set_option maxRecDepth 16384

noncomputable section
namespace Cert.AttRef

open Idealize.ShloMosaic Idealize.ShloMosaic.TcCoe Idealize.SL.Sem
open Cert.ReferenceIdeal Cert.ReferenceIdeal.Gen

/-- The table of biases with the second layer's in every layer's place. -/
def second (r : FVec Ideal S2x8x513 .f32) : FVec Ideal S2x8x513 .f32 := fun i => r (ix3 1 (i 1) (i 2))

theorem slice_second (r : FVec Ideal S2x8x513 .f32) :
    extractStridedSlice S1x8x513 ![0, 0, 0] (second r) slices_S2x8x513_S1x8x513_0_0_0
      = extractStridedSlice S1x8x513 ![1, 0, 0] r Cert.Reference4Ideal.Gen.slices_S2x8x513_S1x8x513_1_0_0 := by
  funext i
  obtain ⟨x0, h, n, rfl⟩ : ∃ (x0 : Fin 1) (h : Fin 8) (n : Fin 513), i = ix3 x0 h n := ⟨i 0, i 1, i 2, eq_ix3 i⟩
  obtain rfl : x0 = 0 := Subsingleton.elim _ _
  pointwise [second]

theorem second_res_eq (m : (ℓ : Loc nD τ Cert.Reference4Ideal.sig) → Buf (Elt Ideal) ℓ) (c : Dev nD) :
    Cert.Reference4Ideal.Value.res_main_v78 m c = att (m ((c.tc : Thread nD τ).loc Cert.Reference4Ideal.main_arg0))
      (m ((c.tc : Thread nD τ).loc Cert.Reference4Ideal.main_arg1)) (m ((c.tc : Thread nD τ).loc Cert.Reference4Ideal.main_arg2))
      (second (m ((c.tc : Thread nD τ).loc Cert.Reference4Ideal.main_arg3))) := by
  delta att scores bias
  rw [slice_second]
  delta Cert.Reference4Ideal.Value.res_main_v78 mixed probs weights rowMax masked valid keyChunk relIdx clipped band padded
  rfl

end Cert.AttRef
end
end
-- ==== Proof.Att.Second.lean ====
module

public import proofs.«01_k».proof.Proof.Att.SecondFrame
public import proofs.«01_k».proof.Proof.Att.SecondRef
public import proofs.«01_k».proof.Proof.Att.Value
public import proofs.«01_k».proof.Proof.Att.KernelFrame
public import proofs.«01_k».proof.Proof.Gen.Kernel4.Frame
public import proofs.«01_k».proof.Proof.Gen.Pre_finite_second

/-!
# The second layer's attention

The second layer's call leaves what the first layer's would leave of a table of biases that holds the second layer's in the
first layer's place.
-/

@[expose] public section

set_option maxRecDepth 16384

noncomputable section
namespace Cert.Kernel4Ideal.Att

open Idealize.ShloMosaic Idealize.ShloMosaic.TcCoe Idealize.SL.Sem
open Idealize.ShloMosaic.Pipeline (Dat)
open Cert.Kernel4Ideal Cert.Kernel4Ideal.Gen Cert.Softmax
open Cert.KernelIdeal.Att (A0 A1 A2 A3 rows rows_at Real3 real_of_abs)
open Cert.AttRef (second att)

theorem pre_real (q k v : FVec Ideal S4x4096x512 .f32) (r : FVec Ideal S2x8x513 .f32)
    (H : Cert.Pre_finite_second.fn (F := Ideal) q k v r = fun _ => 1#1) :
    (∀ i, ∃ x : ℝ, q i = (x : EReal)) ∧ (∀ i, ∃ x : ℝ, k i = (x : EReal)) ∧ ∀ h j, ∃ x : ℝ, r (ix3 1 h j) = (x : EReal) := by
  have h := congrFun H (fun a : Fin 0 => a.elim0)
  obtain ⟨h8, h14⟩ := IntOp.andi_eq_one.1 h
  obtain ⟨h3, h7⟩ := IntOp.andi_eq_one.1 h8
  haveI : Subsingleton Cert.Pre_finite_second.S_.Idx := ⟨fun a b => funext fun i => i.elim0⟩
  refine ⟨fun i => real_of_abs _ (Host.reduce_andi_all _ _ _ _ _ h3 i), fun i => real_of_abs _ (Host.reduce_andi_all _ _ _ _ _ h7 i),
    fun h j => ?_⟩
  have := real_of_abs _ (Host.reduce_andi_all _ _ _ _ _ h14 (ix2 h j))
  revert this
  pointwise
  exact id

variable (m : (ℓ : Loc nD τ sig) → Buf (Elt Ideal) ℓ)

/-- Where the biases' window and the result's lie. -/
theorem idx_val : ∀ t : Fin cfg0.N, win0_3.index t = ![1, 0, 0] ∧ win0_4.index t = ![t.val / 4, t.val % 4, 0] :=
  (by decide +kernel : ∀ t : Fin grid0.N, _)

open Classical in
/-- The memory with the second layer's biases in every layer's place. -/
def mem2 (c : Dev nD) : (ℓ : Loc nD τ sig) → Buf (Elt Ideal) ℓ :=
  Function.update m ((c : Thread nD τ).loc main_arg3) (second (A3 m c))

theorem mem2_0 (c : Dev nD) : A0 (mem2 m c) c = A0 m c :=
  Function.update_of_ne (fun h => absurd (congrArg Prod.snd h) (show Proc.tc.devRef main_arg0 ≠ Proc.tc.devRef main_arg3 by decide)) _ _
theorem mem2_1 (c : Dev nD) : A1 (mem2 m c) c = A1 m c :=
  Function.update_of_ne (fun h => absurd (congrArg Prod.snd h) (show Proc.tc.devRef main_arg1 ≠ Proc.tc.devRef main_arg3 by decide)) _ _
theorem mem2_2 (c : Dev nD) : A2 (mem2 m c) c = A2 m c :=
  Function.update_of_ne (fun h => absurd (congrArg Prod.snd h) (show Proc.tc.devRef main_arg2 ≠ Proc.tc.devRef main_arg3 by decide)) _ _
theorem mem2_3 (c : Dev nD) : A3 (mem2 m c) c = second (A3 m c) := Function.update_self _ _ _

theorem q_eq (c : Dev nD) (t : Fin cfg0.N) : iblk m c 0 t = Cert.KernelIdeal.Gen.iblk (mem2 m c) c 0 t := by
  have ht : t.val < 16 := lt_of_lt_of_eq t.isLt N_0
  refine Eq.trans (b := Cert.KernelIdeal.Gen.iblk m c 0 t) rfl (funext fun y => ?_)
  obtain ⟨i, x, rfl⟩ : ∃ (i : Fin 512) (x : Fin 1024), y = ix2 i x := ⟨y 0, y 1, eq_ix2 y⟩
  have e := fun m => Cert.KernelIdeal.Att.q_at m c t i x ⟨t.val / 4, by omega⟩ ⟨t.val % 4 * 1024 + x.val, by omega⟩ rfl rfl
  refine (e m).trans (Eq.trans ?_ (e (mem2 m c)).symm)
  rw [mem2_0]

theorem k_eq (c : Dev nD) (t : Fin cfg0.N) : iblk m c 1 t = Cert.KernelIdeal.Gen.iblk (mem2 m c) c 1 t := by
  have ht : t.val < 16 := lt_of_lt_of_eq t.isLt N_0
  refine Eq.trans (b := Cert.KernelIdeal.Gen.iblk m c 1 t) rfl (funext fun y => ?_)
  obtain ⟨z, i, x, rfl⟩ : ∃ (z : Fin 1) (i : Fin 4096) (x : Fin 512), y = ix3 z i x := ⟨y 0, y 1, y 2, eq_ix3 y⟩
  obtain rfl : z = 0 := Subsingleton.elim _ _
  have e := fun m => Cert.KernelIdeal.Att.k_at m c t i x ⟨t.val / 4, by omega⟩ rfl
  refine (e m).trans (Eq.trans ?_ (e (mem2 m c)).symm)
  rw [mem2_1]

theorem v_eq (c : Dev nD) (t : Fin cfg0.N) : iblk m c 2 t = Cert.KernelIdeal.Gen.iblk (mem2 m c) c 2 t := by
  have ht : t.val < 16 := lt_of_lt_of_eq t.isLt N_0
  refine Eq.trans (b := Cert.KernelIdeal.Gen.iblk m c 2 t) rfl (funext fun y => ?_)
  obtain ⟨z, i, r, x, rfl⟩ : ∃ (z : Fin 1) (i : Fin 32) (r : Fin 512) (x : Fin 128), y = ix4 z i r x := ⟨y 0, y 1, y 2, y 3, eq_ix4 y⟩
  obtain rfl : z = 0 := Subsingleton.elim _ _
  have e := fun m => Cert.KernelIdeal.Att.v_at m c t i r x ⟨t.val / 4, by omega⟩ ⟨i.val * 128 + x.val, by omega⟩ rfl rfl
  refine (e m).trans (Eq.trans ?_ (e (mem2 m c)).symm)
  rw [mem2_2]

theorem rows_eq (c : Dev nD) : V m c main_v20 = rows (A3 m c) := by
  rfl

theorem row_at (c : Dev nD) (t : Fin cfg0.N) (h : Fin 8) (x : Fin 1024) :
    iblk m c 3 t (ix3 0 h x) = V m c main_v20 (ix3 1 h x) := by
  show V m c main_v20 ((win0_3.blk t).view.emb (ix3 0 h x)) = _
  congr 1
  blk_ext [idx_val t]

theorem b_eq (c : Dev nD) (t : Fin cfg0.N) : iblk m c 3 t = Cert.KernelIdeal.Gen.iblk (mem2 m c) c 3 t := by
  refine funext fun y => ?_
  obtain ⟨z, h, x, rfl⟩ : ∃ (z : Fin 1) (h : Fin 8) (x : Fin 1024), y = ix3 z h x := ⟨y 0, y 1, y 2, eq_ix3 y⟩
  obtain rfl : z = 0 := Subsingleton.elim _ _
  refine (row_at m c t h x).trans (Eq.trans ?_ (Cert.KernelIdeal.Att.row_at (mem2 m c) c t h x).symm)
  rw [rows_eq, Cert.KernelIdeal.Att.rows_eq, mem2_3]
  have hr : (if 256 ≤ x.val ∧ x.val < 640 then 768 - x.val else 512) < 513 := by split <;> omega
  exact (rows_at _ 1 h x ⟨_, hr⟩ rfl).trans (rows_at (second (A3 m c)) 0 h x ⟨_, hr⟩ rfl).symm

theorem out_eq (c : Dev nD) (t : Fin cfg0.N) : outAt m c t = Cert.KernelIdeal.Att.outAt (mem2 m c) c t := by
  unfold outAt Cert.KernelIdeal.Att.outAt tab Cert.KernelIdeal.Att.tab
  rw [q_eq, k_eq, v_eq, b_eq]
  rfl

/-- The array the call leaves is the reference's result. -/
theorem final (c : Dev nD) (hq : ∀ i, ∃ x : ℝ, A0 m c i = (x : EReal)) (hk : ∀ i, ∃ x : ℝ, A1 m c i = (x : EReal))
    (hr : ∀ h j, ∃ x : ℝ, A3 m c (ix3 1 h j) = (x : EReal)) : (dats m 0 c).arrAt 4 (cfgs 0).N
    = (att (A0 m c) (A1 m c) (A2 m c) (second (A3 m c)) : FVec Ideal S4x4096x512 .bf16) := by
  have R : Real3 (mem2 m c) c := ⟨by rw [mem2_0]; exact hq, by rw [mem2_1]; exact hk, by rw [mem2_3]; exact hr⟩
  refine (dats m 0 c).arrAt_eq_of_covers 4 _ (by decide +kernel) fun t hf y => ?_
  have ht : t.val < 16 := lt_of_lt_of_eq t.isLt N_0
  blk_simp; rw [after_4]; frame_out
  refine (congrFun (out_eq m c t) y).trans ((Cert.KernelIdeal.Att.out_at (mem2 m c) c R t ⟨t.val / 4, by omega⟩ rfl y).trans ?_)
  rw [mem2_0, mem2_1, mem2_2, mem2_3]
  congr 1
  blk_ext [idx_val t]

/-- The two programs' body tables are one: label by label they call the same function. -/
theorem tables_eq : Cert.Kernel4.defs₀ (F := Bits) = Cert.Kernel4Ideal.defs₀ := by
  funext κ l a
  match κ with
  | .tc =>
    match l, a with
    | ⟨0, _⟩, (t, s) => rfl
    | ⟨n + 1, h⟩, _ => exact absurd h (Nat.not_lt.2 (Nat.le_add_left _ _))
  | .scScalar _ => rfl
  | .scVector _ _ => rfl

theorem defs_eq : Cert.Kernel4.defs (F := Bits) = Cert.Kernel4Ideal.defs :=
  congrArg (Pipeline.defs Cert.Kernel4Ideal.pcfgs) tables_eq

theorem frame_kernel : Cert.quiescent_Kernel4 (hKernel4 := Cert.Kernel4.Gen.facts) := fun m ρ _ => by
  rw [defs_eq]
  exact frame (F := Bits) m ρ

end Cert.Kernel4Ideal.Att
end
end
-- ==== Proof.Merge.lean ====
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! ## The reference, layer by layer -/

namespace Cert.MergeRef

open Cert.Reference2Ideal Cert.Reference2Ideal.Gen

/-- The logistic function of a gate array, as the reference spells it. -/
abbrev sigm (g : FVec Ideal S4x4096x1024 .f32) : FVec Ideal S4x4096x1024 .f32 :=
  Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf g)))

/-- The residual stream after the gated merge of the two mixers. -/
def merged (x : FVec Ideal S4x4096x1024 .f32) (att ml : FVec Ideal S4x4096x512 .f32) (ga gm : FVec Ideal S4x4096x1024 .f32)
    (wa wm : FVec Ideal S512x1024 .f32) (wo : FVec Ideal S1024x1024 .f32) : FVec Ideal S4x4096x1024 .f32 :=
  addf x (Host.dotGeneral dot_S4x4096x1024_S1024x1024_S4x4096x1024_2_0_01_1_n_n none (addf (mulf (sigm ga) (Host.dotGeneral dot_S4x4096x512_S512x1024_S4x4096x1024_2_0_01_1_n_n none att wa)) (mulf (sigm gm) (Host.dotGeneral dot_S4x4096x512_S512x1024_S4x4096x1024_2_0_01_1_n_n none ml wm))) wo)

/-- The root-mean-square normalisation with its gain. -/
def normed (y : FVec Ideal S4x4096x1024 .f32) (g : FVec Ideal S1024 .f32) : FVec Ideal S4x4096x1024 .f32 :=
  mulf (mulf y (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf y y) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The feed-forward block added to the stream. -/
def ffn (y hn : FVec Ideal S4x4096x1024 .f32) (wu : FVec Ideal S1024x4096 .f32) (wd : FVec Ideal S4096x1024 .f32) : FVec Ideal S4x4096x1024 .f32 :=
  addf y (Host.dotGeneral dot_S4x4096x4096_S4096x1024_S4x4096x1024_2_0_01_1_n_n none (mulf (maximumf (Host.dotGeneral dot_S4x4096x1024_S1024x4096_S4x4096x4096_2_0_01_1_n_n none hn wu) (broadcastInDim S4x4096x4096 ![] bcast_S_S4x4096x4096 (constant S_ .f32 0x00000000#32))) (maximumf (Host.dotGeneral dot_S4x4096x1024_S1024x4096_S4x4096x4096_2_0_01_1_n_n none hn wu) (broadcastInDim S4x4096x4096 ![] bcast_S_S4x4096x4096 (constant S_ .f32 0x00000000#32)))) wd)

/-- The second layer's gain of the normalisation before the feed-forward block. -/
def gain (g : FVec Ideal S2x1024 .f32) : FVec Ideal S1024 .f32 :=
  shapeCast _ (extractStridedSlice S1x1024 ![1, 0] g slices_S2x1024_S1x1024_1_0) shapeCasts_S1x1024_S1024

theorem merged_at (x att ml ga gm wa wm wo) (b : Fin 4) (s : Fin 4096) (n : Fin 1024) :
    merged x att ml ga gm wa wm wo (ix3 b s n) = x (ix3 b s n) + ∑ k,
        (Ideal.logistic (ga (ix3 b s k)) * ∑ l, att (ix3 b s l) * wa (ix2 l k) +
          Ideal.logistic (gm (ix3 b s k)) * ∑ l, ml (ix3 b s l) * wm (ix2 l k)) * wo (ix2 k n) := by
  pointwise [merged]; rfl

theorem normed_at (y g) (b : Fin 4) (s : Fin 4096) (n : Fin 1024) :
    normed y g (ix3 b s n) = y (ix3 b s n) * Ideal.rsqrt
      (Ideal.div (∑ k, y (ix3 b s k) * y (ix3 b s k)) (Ideal.ofBits FTy.f32 1149239296#32) +
        Ideal.ofBits FTy.f32 897988541#32) * g (ix1 n) := by
  pointwise [normed]

theorem ffn_at (y g wu wd) (b : Fin 4) (s : Fin 4096) (n : Fin 1024) :
    ffn y g wu wd (ix3 b s n) = y (ix3 b s n) + ∑ f : Fin 4096,
      max (∑ k, g (ix3 b s k) * wu (ix2 k f)) 0 * max (∑ k, g (ix3 b s k) * wu (ix2 k f)) 0 * wd (ix2 f n) := by
  pointwise [ffn]

theorem gain_at (g) (n : Fin 1024) :
    gain g (ix1 n) = g (ix2 1 n) := by
  pointwise [gain]

theorem res_eq (m : (ℓ : Loc nD τ sig) → Buf (Elt Ideal) ℓ) (c : Dev nD) :
    Cert.Reference2Ideal.Value.res_main_v52 m c =
      (let y := merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      shapeCast _ (normed (ffn y (normed y (gain (m ((c.tc : Thread nD τ).loc main_arg8)))) (m ((c.tc : Thread nD τ).loc main_arg9)) (m ((c.tc : Thread nD τ).loc main_arg10))) (m ((c.tc : Thread nD τ).loc main_arg11))) shapeCasts_S4x4096x1024_S16384x1024) := rfl

end Cert.MergeRef

/-! ## The kernel's block of rows -/

namespace Cert.Merge

open Cert.Kernel2Ideal Cert.Kernel2Ideal.Gen Cert.MergeRef

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![1, 0, 0]
    ∧ win0_8.index t = ![0, 0]
    ∧ win0_9.index t = ![0, 0]
    ∧ win0_10.index t = ![0, 0]
    ∧ win0_11.index t = ![t.val, 0] :=
  (by decide +kernel : ∀ t : Fin grid0.N, _)

/-- The reference's merged stream over the kernel's own arguments. -/
abbrev Y (c : Dev nD) : FVec Ideal Cert.Reference2Ideal.S4x4096x1024 .f32 :=
  merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The gate columns of the first mixer, read back from the array the two gates share. -/
theorem gate_att (c : Dev nD) (t : Fin cfg0.N) (r : Fin 512) (b : Fin 4) (s : Fin 4096) (x : Fin 1024)
    (h : b.val * 4096 + s.val = t.val * 512 + r.val) (hx : x.val < 2048) :
    V m c main_v2 ((win0_3.blk t).view.emb (ix2 r ⟨x.val, hx⟩)) = m (c.tc.loc main_arg3) (ix3 b s x) := by
  entry_read
  pointwise
  blk_simp [idx_val t]
  rw [dif_pos x.isLt]
  blk_ext []

/-- The gate columns of the second mixer. -/
theorem gate_ml (c : Dev nD) (t : Fin cfg0.N) (r : Fin 512) (b : Fin 4) (s : Fin 4096) (x : Fin 1024)
    (h : b.val * 4096 + s.val = t.val * 512 + r.val) (hx : 1024 + x.val < 2048) :
    V m c main_v2 ((win0_3.blk t).view.emb (ix2 r ⟨1024 + x.val, hx⟩)) = m (c.tc.loc main_arg4) (ix3 b s x) := by
  entry_read
  pointwise
  blk_simp [idx_val t]
  rw [dif_neg (by simp)]
  blk_ext []

/-- The stream the kernel forms is the merged stream of the reference. -/
theorem stream_at (c : Dev nD) (t : Fin cfg0.N) (r : Fin 512) (n : Fin 1024) (b : Fin 4) (s : Fin 4096)
    (h : b.val * 4096 + s.val = t.val * 512 + r.val) :
    k0_pay9 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r n) = Y m c (ix3 b s n) := by
  refine Eq.trans ?_ (merged_at _ _ _ _ _ _ _ _ b s n).symm
  pointwise [k0_pay9, k0_pay2]
  blk_point [iblk, V, idx_val t]
  · exact gate_att m c t r b s _ h _
  · exact gate_ml m c t r b s _ h _

/-- The gain the kernel reads. -/
theorem gain_row (c : Dev nD) (t : Fin cfg0.N) (n : Fin 1024) :
    k0_pay10 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 0 n)
      = gain (m ((c : Thread nD τ).loc main_arg8)) (ix1 n) := by
  refine Eq.trans ?_ (gain_at _ n).symm
  pointwise [k0_pay10, k0_pay3]
  blk_point [iblk, V, idx_val t]

/-- The mean square of a row of the stream. -/
theorem mean_at (x0 x1 x2 x3 x4 x5 x6 x7 x8 x9 x10) (r : Fin 512) :
    k0_pay11 (F := Ideal) x0 x1 x2 x3 x4 x5 x6 x7 x8 x9 x10 (ix2 r 0)
     = Ideal.div (∑ k, k0_pay9 x0 x1 x2 x3 x4 x5 x6 x7 x8 x9 x10 (ix2 r k) * k0_pay9 x0 x1 x2 x3 x4 x5 x6 x7 x8 x9 x10 (ix2 r k))
        (Ideal.ofBits FTy.f32 1149239296#32) := by
  pointwise [k0_pay11, k0_pay4]
  rfl

theorem scaled_at (a : FVec Ideal S512x1024 .f32) (g : FVec Ideal S1x1024 .f32) (q : FVec Ideal S512x1 .f32) (r : Fin 512) (n : Fin 1024) :
    k0_pay5 a g q (ix2 r n) = a (ix2 r n) * Ideal.rsqrt (q (ix2 r 0) + Ideal.ofBits FTy.f32 897988541#32) * g (ix2 0 n) := by
  pointwise [k0_pay5]

/-- One tile of the feed-forward block at a row: the squared rectified hidden values against the second weights. -/
abbrev tile (u : Fin 1024 → EReal) (w : FVec Ideal S1024x1024 .bf16) (d : FVec Ideal S1024x1024 .bf16) (n : Fin 1024) : EReal :=
  ∑ f : Fin 1024, max (∑ k, u k * w (ix2 k f)) 0 * max (∑ k, u k * w (ix2 k f)) 0 * d (ix2 f n)

theorem tiles01 (a g q w0 d0 w1 d1) (r : Fin 512) (n : Fin 1024) :
    k0_pay6 (F := Ideal) a g q w0 d0 w1 d1 (ix2 r n)
      = a (ix2 r n) + tile (fun k => k0_pay5 a g q (ix2 r k)) w0 d0 n + tile (fun k => k0_pay5 a g q (ix2 r k)) w1 d1 n := by
  pointwise [k0_pay6]

theorem hidden2 (a g q w) (r : Fin 512) (f : Fin 1024) :
    k0_pay7 (F := Ideal) a g q w (ix2 r f) = max (∑ k, k0_pay5 a g q (ix2 r k) * w (ix2 k f)) 0 * max (∑ k, k0_pay5 a g q (ix2 r k) * w (ix2 k f)) 0 := by
  pointwise [k0_pay7]

theorem stored (u z h2 d2 w3 d3 fg) (r : Fin 512) (n : Fin 1024) (o : Fin 1024 → EReal)
    (ho : ∀ n, z (ix2 r n) + ∑ f, h2 (ix2 r f) * d2 (ix2 f n) + tile (fun k => u (ix2 r k)) w3 d3 n = o n) :
    k0_pay1 (F := Ideal) u z h2 d2 w3 d3 fg (ix2 r n)
      = o n * Ideal.rsqrt (Ideal.div (∑ k, o k * o k) (Ideal.ofBits FTy.f32 1149239296#32) + Ideal.ofBits FTy.f32 897988541#32) * fg (ix2 0 n) := by
  have e : ∀ n, z (ix2 r n) + ∑ f, h2 (ix2 r f) * d2 (ix2 f n) +
      ∑ f, max (∑ k, u (ix2 r k) * w3 (ix2 k f)) 0 * max (∑ k, u (ix2 r k) * w3 (ix2 k f)) 0 * d3 (ix2 f n) = o n := ho
  pointwise [k0_pay1]
  simp only [e]

/-- A sum over the feed-forward width, in the four tiles the kernel takes. -/
theorem sum_tiles (f : Fin 4096 → EReal) : ∑ x, f x = (∑ k : Fin 1024, f ⟨k, by omega⟩) + (∑ k : Fin 1024, f ⟨1024 + k, by omega⟩)
    + (∑ k : Fin 1024, f ⟨2048 + k, by omega⟩) + ∑ k : Fin 1024, f ⟨3072 + k, by omega⟩ := by
  have e : ∑ x, f x = _ := Fin.sum_univ_add (a := 3072) (b := 1024) f
  rw [e, Fin.sum_univ_add (a := 2048) (b := 1024), Fin.sum_univ_add (a := 1024) (b := 1024)]
  rfl

/-- The hidden width's summand of one output column, over the whole weights. -/
abbrev hidden (c : Dev nD) (u : Fin 1024 → EReal) (n : Fin 1024) (f : Fin 4096) : EReal :=
  max (∑ k, u k * (show FVec Ideal Cert.Reference2Ideal.S1024x4096 .f32 from m (c.tc.loc main_arg9)) (ix2 k f)) 0
    * max (∑ k, u k * (show FVec Ideal Cert.Reference2Ideal.S1024x4096 .f32 from m (c.tc.loc main_arg9)) (ix2 k f)) 0
    * (show FVec Ideal Cert.Reference2Ideal.S4096x1024 .f32 from m (c.tc.loc main_arg10)) (ix2 f n)

theorem kept (w : FVec Ideal S1024x1024 .bf16) : k0_pay8 (F := Ideal) w = w := by
  funext i
  pointwise [k0_pay8]

theorem tile_congr (u w d n) (W : Fin 1024 → Fin 1024 → EReal) (D : Fin 1024 → EReal)
    (hw : ∀ k f, w (ix2 k f) = W k f) (hd : ∀ f, d (ix2 f n) = D f) :
    tile u w d n = ∑ f, max (∑ k, u k * W k f) 0 * max (∑ k, u k * W k f) 0 * D f := by
  simp only [tile, hw, hd]

/-- The four column tiles of the first weights. -/
theorem up_at (c : Dev nD) (t : Fin cfg0.N) (k f : Fin 1024) :
View.ld (iblk m c 8 t) r0_6 (ix2 k f) = (show FVec Ideal Cert.Reference2Ideal.S1024x4096 .f32 from m (c.tc.loc main_arg9)) (ix2 k ⟨f, by omega⟩)
    ∧ View.ld (iblk m c 8 t) r0_8 (ix2 k f) = (show FVec Ideal Cert.Reference2Ideal.S1024x4096 .f32 from m (c.tc.loc main_arg9)) (ix2 k ⟨1024 + f, by omega⟩)
    ∧ View.ld (iblk m c 8 t) r0_10 (ix2 k f) = (show FVec Ideal Cert.Reference2Ideal.S1024x4096 .f32 from m (c.tc.loc main_arg9)) (ix2 k ⟨2048 + f, by omega⟩)
    ∧ View.ld (iblk m c 8 t) r0_12 (ix2 k f) = (show FVec Ideal Cert.Reference2Ideal.S1024x4096 .f32 from m (c.tc.loc main_arg9)) (ix2 k ⟨3072 + f, by omega⟩) := by
  refine ⟨?_, ?_, ?_, ?_⟩ <;> blk_point [iblk, V, idx_val t]

/-- The four row tiles of the second weights. -/
theorem down_at (c : Dev nD) (t : Fin cfg0.N) (f n : Fin 1024) :
View.ld (iblk m c 9 t) r0_7 (ix2 f n) = (show FVec Ideal Cert.Reference2Ideal.S4096x1024 .f32 from m (c.tc.loc main_arg10)) (ix2 ⟨f, by omega⟩ n)
    ∧ View.ld (iblk m c 9 t) r0_9 (ix2 f n) = (show FVec Ideal Cert.Reference2Ideal.S4096x1024 .f32 from m (c.tc.loc main_arg10)) (ix2 ⟨1024 + f, by omega⟩ n)
    ∧ View.ld (iblk m c 9 t) r0_11 (ix2 f n) = (show FVec Ideal Cert.Reference2Ideal.S4096x1024 .f32 from m (c.tc.loc main_arg10)) (ix2 ⟨2048 + f, by omega⟩ n)
    ∧ View.ld (iblk m c 9 t) r0_13 (ix2 f n) = (show FVec Ideal Cert.Reference2Ideal.S4096x1024 .f32 from m (c.tc.loc main_arg10)) (ix2 ⟨3072 + f, by omega⟩ n) := by
  refine ⟨?_, ?_, ?_, ?_⟩ <;> blk_point [iblk, V, idx_val t]

/-- Each tile's two weight blocks, read from the whole weights. -/
theorem tile_at (c : Dev nD) (t : Fin cfg0.N) (u : Fin 1024 → EReal) (n : Fin 1024) :
    (tile u (View.ld (iblk m c 8 t) r0_6) (View.ld (iblk m c 9 t) r0_7) n = ∑ f : Fin 1024, hidden m c u n ⟨f, by omega⟩)
    ∧ (tile u (View.ld (iblk m c 8 t) r0_8) (View.ld (iblk m c 9 t) r0_9) n = ∑ f : Fin 1024, hidden m c u n ⟨1024 + f, by omega⟩)
    ∧ (tile u (View.ld (iblk m c 8 t) r0_10) (View.ld (iblk m c 9 t) r0_11) n = ∑ f : Fin 1024, hidden m c u n ⟨2048 + f, by omega⟩)
    ∧ (tile u (View.ld (iblk m c 8 t) r0_12) (View.ld (iblk m c 9 t) r0_13) n = ∑ f : Fin 1024, hidden m c u n ⟨3072 + f, by omega⟩) := by
  exact ⟨tile_congr u _ _ n _ _ (fun k f => (up_at m c t k f).1) (fun f => (down_at m c t f n).1),
    tile_congr u _ _ n _ _ (fun k f => (up_at m c t k f).2.1) (fun f => (down_at m c t f n).2.1),
    tile_congr u _ _ n _ _ (fun k f => (up_at m c t k f).2.2.1) (fun f => (down_at m c t f n).2.2.1),
    tile_congr u _ _ n _ _ (fun k f => (up_at m c t k f).2.2.2) (fun f => (down_at m c t f n).2.2.2)⟩

/-- The gain of the last normalisation. -/
theorem last_gain (c : Dev nD) (t : Fin cfg0.N) (n : Fin 1024) :
    (show FVec Ideal S1x1024 .f32 from iblk m c 10 t) (ix2 0 n) = (show FVec Ideal Cert.Reference2Ideal.S1024 .f32 from m (c.tc.loc main_arg11)) (ix1 n) := by
  blk_point [iblk, V, idx_val t]

/-- The normalised stream entering the feed-forward block. -/
abbrev H (c : Dev nD) : FVec Ideal Cert.Reference2Ideal.S4x4096x1024 .f32 := normed (Y m c) (gain (m (c.tc.loc main_arg8)))

section
variable (c : Dev nD) (t : Fin cfg0.N)
/-- The block's stream, gain and mean square. -/
abbrev A9 := k0_pay9 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
@[inherit_doc A9]
abbrev A10 := k0_pay10 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
@[inherit_doc A9]
abbrev A11 := k0_pay11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)

variable (r : Fin 512) (b : Fin 4) (s : Fin 4096) (h : b.val * 4096 + s.val = t.val * 512 + r.val)
include h

theorem scaled_row (n : Fin 1024) : k0_pay5 (A9 m c t) (A10 m c t) (A11 m c t) (ix2 r n) = H m c (ix3 b s n) := by
  refine (scaled_at _ _ _ r n).trans (Eq.trans ?_ (normed_at _ _ b s n).symm)
  rw [show A11 m c t (ix2 r 0) = _ from mean_at _ _ _ _ _ _ _ _ _ _ _ r, show A10 m c t (ix2 0 n) = _ from gain_row m c t n]
  simp only [stream_at m c t r _ b s h]

theorem stored_row (n : Fin 1024) :
    k0_pay1 (k0_pay5 (A9 m c t) (A10 m c t) (A11 m c t))
      (k0_pay6 (A9 m c t) (A10 m c t) (A11 m c t) (View.ld (iblk m c 8 t) r0_6) (View.ld (iblk m c 9 t) r0_7) (View.ld (iblk m c 8 t) r0_8) (View.ld (iblk m c 9 t) r0_9))
      (k0_pay7 (A9 m c t) (A10 m c t) (A11 m c t) (View.ld (iblk m c 8 t) r0_10)) (k0_pay8 (View.ld (iblk m c 9 t) r0_11))
      (View.ld (iblk m c 8 t) r0_12) (View.ld (iblk m c 9 t) r0_13) (iblk m c 10 t) (ix2 r n)
    = normed (ffn (Y m c) (H m c) (m (c.tc.loc main_arg9)) (m (c.tc.loc main_arg10))) (m (c.tc.loc main_arg11)) (ix3 b s n) := by
  refine (stored _ _ _ _ _ _ _ r n (fun n => ffn (Y m c) (H m c) (m (c.tc.loc main_arg9)) (m (c.tc.loc main_arg10)) (ix3 b s n)) ?_).trans
    (Eq.trans ?_ (normed_at _ _ b s n).symm)
  · intro n
    obtain ⟨t0, t1, t2, t3⟩ := tile_at m c t (fun k => H m c (ix3 b s k)) n
    rw [ffn_at, tiles01]
    simp only [hidden2, kept, scaled_row m c t r b s h, stream_at m c t r _ b s h, ← add_assoc]
    rw [t0, t1, t3, sum_tiles]
    simp only [← add_assoc]
    exact congrArg₂ (· + ·) (congrArg₂ (· + ·) rfl t2) rfl
  · exact congrArg₂ (· * ·) rfl (last_gain m c t n)
end

/-- What the body stores at a point is the reference at the place its block has in the result. -/
theorem point (c : Dev nD) (t : Fin cfg0.N) (y : S512x1024.Idx) :
    k0_pay1 (k0_pay5 (A9 m c t) (A10 m c t) (A11 m c t))
      (k0_pay6 (A9 m c t) (A10 m c t) (A11 m c t) (View.ld (iblk m c 8 t) r0_6) (View.ld (iblk m c 9 t) r0_7) (View.ld (iblk m c 8 t) r0_8) (View.ld (iblk m c 9 t) r0_9))
      (k0_pay7 (A9 m c t) (A10 m c t) (A11 m c t) (View.ld (iblk m c 8 t) r0_10)) (k0_pay8 (View.ld (iblk m c 9 t) r0_11))
      (View.ld (iblk m c 8 t) r0_12) (View.ld (iblk m c 9 t) r0_13) (iblk m c 10 t) y
    = (shapeCast _ (normed (ffn (Y m c) (H m c) (m (c.tc.loc main_arg9)) (m (c.tc.loc main_arg10))) (m (c.tc.loc main_arg11))) Cert.Reference2Ideal.Gen.shapeCasts_S4x4096x1024_S16384x1024 : FVec Ideal Cert.Reference2Ideal.S16384x1024 .f32)
        (((cfg0.win 11).blk t).view.emb y) := by
  obtain ⟨r, n, rfl⟩ : ∃ (r : Fin 512) (n : Fin 1024), y = ix2 r n := ⟨y 0, y 1, eq_ix2 y⟩
  pointwise
  refine (stored_row m c t r ⟨(t.val * 512 + r.val) / 4096, by idx_bounds; omega⟩ ⟨(t.val * 512 + r.val) % 4096, by omega⟩ (by simp only []; omega) n).trans ?_
  blk_point [idx_val t]

/-- The result array after the run. -/
theorem final (c : Dev nD) : (dats m 0 c).arrAt 11 (cfgs 0).N
    = (shapeCast _ (normed (ffn (Y m c) (H m c) (m (c.tc.loc main_arg9)) (m (c.tc.loc main_arg10))) (m (c.tc.loc main_arg11))) Cert.Reference2Ideal.Gen.shapeCasts_S4x4096x1024_S16384x1024 : FVec Ideal Cert.Reference2Ideal.S16384x1024 .f32) := by
  refine (dats m 0 c).arrAt_eq_of_covers 11 _ (by decide +kernel) fun t hf y => ?_
  blk_simp; rw [after0_11]; frame_out
  exact point m c t y

end Cert.Merge
-- ==== Proof.Merge0.lean ====
module

public import proofs.«01_k».proof.Proof.Merge
public import proofs.«01_k».proof.Proof.Gen.Kernel3Ideal.Value
public import proofs.«01_k».proof.Proof.Gen.Reference3Ideal.Run

@[expose] public section

set_option maxRecDepth 16384

noncomputable section

open Idealize.ShloMosaic Idealize.ShloMosaic.TcCoe Idealize.SL.Sem
open Idealize.ShloMosaic.Pipeline (Dat)
open scoped BigOperators

/-! The merge of the first layer. It differs from the last layer's in the gain it reads and in what it stores: the stream itself,
without the last normalisation. Everything else is the last layer's, taken from there. -/

namespace Cert.MergeRef

open Cert.Reference3Ideal Cert.Reference3Ideal.Gen

/-- The first layer's gain of the normalisation before the feed-forward block. -/
def gain0 (g : FVec Ideal S2x1024 .f32) : FVec Ideal S1024 .f32 :=
  shapeCast _ (extractStridedSlice S1x1024 ![0, 0] g slices_S2x1024_S1x1024_0_0) shapeCasts_S1x1024_S1024

theorem gain0_at (g) (n : Fin 1024) : gain0 g (ix1 n) = g (ix2 0 n) := by
  pointwise [gain0]

theorem res0_eq (m : (ℓ : Loc nD τ sig) → Buf (Elt Ideal) ℓ) (c : Dev nD) :
    Cert.Reference3Ideal.Value.res_main_v39 m c =
      (let y := merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      shapeCast _ (ffn y (normed y (gain0 (m ((c.tc : Thread nD τ).loc main_arg8)))) (m ((c.tc : Thread nD τ).loc main_arg9)) (m ((c.tc : Thread nD τ).loc main_arg10))) shapeCasts_S4x4096x1024_S16384x1024) := rfl

end Cert.MergeRef

namespace Cert.Merge0

open Cert.Kernel3Ideal Cert.Kernel3Ideal.Gen Cert.MergeRef
open Cert.Merge (Y tile hidden sum_tiles)

variable (m : (ℓ : Loc nD τ sig) → Buf (Elt Ideal) ℓ)

/-- Where the gain's window and the result's lie. -/
theorem idx_val : ∀ t : Fin cfg0.N, win0_7.index t = ![0, 0, 0] ∧ win0_11.index t = ![t.val, 0] :=
  (by decide +kernel : ∀ t : Fin grid0.N, _)

/-- The normalised stream entering the feed-forward block. -/
abbrev H (c : Dev nD) : FVec Ideal Cert.Reference2Ideal.S4x4096x1024 .f32 := normed (Y m c) (gain0 (m (c.tc.loc main_arg8)))

theorem stored (u z h2 d2 w3 d3) (r : Fin 512) (n : Fin 1024) :
    k0_pay1 (F := Ideal) u z h2 d2 w3 d3 (ix2 r n)
      = z (ix2 r n) + ∑ f, h2 (ix2 r f) * d2 (ix2 f n) + tile (fun k => u (ix2 r k)) w3 d3 n := by
  pointwise [k0_pay1]

/-- The gain the kernel reads. -/
theorem gain_row (c : Dev nD) (t : Fin cfg0.N) (n : Fin 1024) :
    k0_pay10 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 0 n)
      = gain0 (m ((c : Thread nD τ).loc main_arg8)) (ix1 n) := by
  refine Eq.trans ?_ (gain0_at _ n).symm
  pointwise [k0_pay10, k0_pay3]
  blk_point [iblk, V, idx_val t]

section
variable (c : Dev nD) (t : Fin cfg0.N)
/-- The block's stream, gain and mean square. -/
abbrev A9 := k0_pay9 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
@[inherit_doc A9]
abbrev A10 := k0_pay10 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
@[inherit_doc A9]
abbrev A11 := k0_pay11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The mean square of a row of the stream. -/
theorem mean_at (r : Fin 512) : A11 m c t (ix2 r 0)
     = Ideal.div (∑ k, A9 m c t (ix2 r k) * A9 m c t (ix2 r k)) (Ideal.ofBits FTy.f32 1149239296#32) :=
  Cert.Merge.mean_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) r

/-- The body's tiles, computed as the last layer's body computes them. -/
theorem tiles01 (a g q w0 d0 w1 d1) (r : Fin 512) (n : Fin 1024) :
    k0_pay6 (F := Ideal) a g q w0 d0 w1 d1 (ix2 r n)
      = a (ix2 r n) + tile (fun k => k0_pay5 a g q (ix2 r k)) w0 d0 n + tile (fun k => k0_pay5 a g q (ix2 r k)) w1 d1 n :=
  Cert.Merge.tiles01 a g q w0 d0 w1 d1 r n

@[inherit_doc tiles01]
theorem hidden2 (a g q w) (r : Fin 512) (f : Fin 1024) :
    k0_pay7 (F := Ideal) a g q w (ix2 r f) = max (∑ k, k0_pay5 a g q (ix2 r k) * w (ix2 k f)) 0 * max (∑ k, k0_pay5 a g q (ix2 r k) * w (ix2 k f)) 0 :=
  Cert.Merge.hidden2 a g q w r f

@[inherit_doc tiles01]
theorem kept (w : FVec Ideal S1024x1024 .bf16) : k0_pay8 (F := Ideal) w = w := Cert.Merge.kept w

/-- Each tile's two weight blocks, read from the whole weights. -/
theorem tile_at (u : Fin 1024 → EReal) (n : Fin 1024) :
    (tile u (View.ld (iblk m c 8 t) r0_6) (View.ld (iblk m c 9 t) r0_7) n = ∑ f : Fin 1024, hidden m c u n ⟨f, by omega⟩)
    ∧ (tile u (View.ld (iblk m c 8 t) r0_8) (View.ld (iblk m c 9 t) r0_9) n = ∑ f : Fin 1024, hidden m c u n ⟨1024 + f, by omega⟩)
    ∧ (tile u (View.ld (iblk m c 8 t) r0_10) (View.ld (iblk m c 9 t) r0_11) n = ∑ f : Fin 1024, hidden m c u n ⟨2048 + f, by omega⟩)
    ∧ (tile u (View.ld (iblk m c 8 t) r0_12) (View.ld (iblk m c 9 t) r0_13) n = ∑ f : Fin 1024, hidden m c u n ⟨3072 + f, by omega⟩) :=
  Cert.Merge.tile_at m c t u n

variable (r : Fin 512) (b : Fin 4) (s : Fin 4096) (h : b.val * 4096 + s.val = t.val * 512 + r.val)
include h

/-- The stream the kernel forms is the merged stream of the reference. -/
theorem stream_at (n : Fin 1024) : A9 m c t (ix2 r n) = Y m c (ix3 b s n) := Cert.Merge.stream_at m c t r n b s h

theorem scaled_row (n : Fin 1024) : k0_pay5 (A9 m c t) (A10 m c t) (A11 m c t) (ix2 r n) = H m c (ix3 b s n) := by
  refine (Cert.Merge.scaled_at (A9 m c t) (A10 m c t) (A11 m c t) r n).trans (Eq.trans ?_ (normed_at _ _ b s n).symm)
  rw [mean_at m c t r, show A10 m c t (ix2 0 n) = _ from gain_row m c t n]
  simp only [stream_at m c t r b s h]

theorem stored_row (n : Fin 1024) :
    k0_pay1 (k0_pay5 (A9 m c t) (A10 m c t) (A11 m c t))
      (k0_pay6 (A9 m c t) (A10 m c t) (A11 m c t) (View.ld (iblk m c 8 t) r0_6) (View.ld (iblk m c 9 t) r0_7) (View.ld (iblk m c 8 t) r0_8) (View.ld (iblk m c 9 t) r0_9))
      (k0_pay7 (A9 m c t) (A10 m c t) (A11 m c t) (View.ld (iblk m c 8 t) r0_10)) (k0_pay8 (View.ld (iblk m c 9 t) r0_11))
      (View.ld (iblk m c 8 t) r0_12) (View.ld (iblk m c 9 t) r0_13) (ix2 r n)
    = ffn (Y m c) (H m c) (m (c.tc.loc main_arg9)) (m (c.tc.loc main_arg10)) (ix3 b s n) := by
  obtain ⟨t0, t1, t2, t3⟩ := tile_at m c t (fun k => H m c (ix3 b s k)) n
  rw [stored, ffn_at, tiles01]
  simp only [hidden2, kept, scaled_row m c t r b s h, stream_at m c t r b s h, ← add_assoc]
  rw [t0, t1, t3, sum_tiles]
  simp only [← add_assoc]
  exact congrArg₂ (· + ·) (congrArg₂ (· + ·) rfl t2) rfl
end

/-- What the body stores at a point is the reference at the place its block has in the result. -/
theorem point (c : Dev nD) (t : Fin cfg0.N) (y : S512x1024.Idx) :
    k0_pay1 (k0_pay5 (A9 m c t) (A10 m c t) (A11 m c t))
      (k0_pay6 (A9 m c t) (A10 m c t) (A11 m c t) (View.ld (iblk m c 8 t) r0_6) (View.ld (iblk m c 9 t) r0_7) (View.ld (iblk m c 8 t) r0_8) (View.ld (iblk m c 9 t) r0_9))
      (k0_pay7 (A9 m c t) (A10 m c t) (A11 m c t) (View.ld (iblk m c 8 t) r0_10)) (k0_pay8 (View.ld (iblk m c 9 t) r0_11))
      (View.ld (iblk m c 8 t) r0_12) (View.ld (iblk m c 9 t) r0_13) y
    = (shapeCast _ (ffn (Y m c) (H m c) (m (c.tc.loc main_arg9)) (m (c.tc.loc main_arg10))) Cert.Reference3Ideal.Gen.shapeCasts_S4x4096x1024_S16384x1024 : FVec Ideal Cert.Reference3Ideal.S16384x1024 .f32)
        (((cfg0.win 11).blk t).view.emb y) := by
  obtain ⟨r, n, rfl⟩ : ∃ (r : Fin 512) (n : Fin 1024), y = ix2 r n := ⟨y 0, y 1, eq_ix2 y⟩
  pointwise
  refine (stored_row m c t r ⟨(t.val * 512 + r.val) / 4096, by idx_bounds; omega⟩ ⟨(t.val * 512 + r.val) % 4096, by omega⟩ (by simp only []; omega) n).trans ?_
  blk_point [idx_val t]

/-- The result array after the run. -/
theorem final (c : Dev nD) : (dats m 0 c).arrAt 11 (cfgs 0).N
    = (shapeCast _ (ffn (Y m c) (H m c) (m (c.tc.loc main_arg9)) (m (c.tc.loc main_arg10))) Cert.Reference3Ideal.Gen.shapeCasts_S4x4096x1024_S16384x1024 : FVec Ideal Cert.Reference3Ideal.S16384x1024 .f32) := by
  refine (dats m 0 c).arrAt_eq_of_covers 11 _ (by decide +kernel) fun t hf y => ?_
  blk_simp; rw [after0_11]; frame_out
  exact point m c t y

end Cert.Merge0
-- ==== Proof.lean ====
module

public import proofs.«01_k».proof.Defs
public import proofs.«01_k».proof.Proof.Att.KernelFrame
public import proofs.«01_k».proof.Proof.Att.Value
public import proofs.«01_k».proof.Proof.Att.Second
public import proofs.«01_k».proof.Proof.Merge
public import proofs.«01_k».proof.Proof.Merge0
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite
public import proofs.«01_k».proof.Proof.Gen.Pre_finite_second
public import Idealize.ShloMosaic.Adequacy
public import Idealize.ShloMosaic.Init

@[expose] public section

noncomputable section

namespace Cert.Proof

open Idealize.ShloMosaic Idealize.SL.Sem Cert.Kernel

/-- The reference of the attention ends with its arguments unchanged and every counter at zero. -/
theorem att_ref_frame : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The attention's call computes its reference's function of real queries, keys and biases. -/
theorem att_value : Cert.algebraic_KernelIdeal_ReferenceIdeal_pre_finite := by
  pair_intro
  · run_from Cert.KernelIdeal.Att.run_main m g
  · run_from Cert.ReferenceIdeal.Value.run m' g'
    obtain ⟨hq, hk, hr⟩ := Cert.KernelIdeal.Att.pre_real _ _ _ _ (hpre c)
    rw [Cert.KernelIdeal.Att.final m c ⟨hq, hk, hr⟩]
    obtain ⟨h0, h1, h2, h3⟩ := hagree c
    refine (Cert.AttRef.res_eq m' c).trans ?_
    rw [h0, h1, h2, h3]

/-- The reference of the merge ends with its arguments unchanged and every counter at zero. -/
theorem merge_ref_frame : Cert.quiescent_Reference2Ideal := fun m ρ _ =>
  (θ_run _ _ _).mono (fun r h => ⟨fun c => (h c).2, Idealize.ShloMosaic.sem_eq_zero_of_no_sems (by decide) r.2⟩)
    (Cert.Reference2Ideal.Value.run (F := Ideal) m ρ)

/-- The merge and feed-forward call computes its reference's function. -/
theorem merge_value : Cert.algebraic_Kernel2Ideal_Reference2Ideal := by
  pair_intro
  · run_from Cert.Kernel2Ideal.Gen.run_main m g
  · run_from Cert.Reference2Ideal.Value.run m' g'
    rw [Cert.Merge.final m c]
    obtain ⟨h0, h1, h2, h3, h4, h5, h6, h7, h8, h9, h10, h11⟩ := hagree c
    refine (Cert.MergeRef.res_eq m' c).trans ?_
    rw [h0, h1, h2, h3, h4, h5, h6, h7, h8, h9, h10, h11]

/-- The reference of the first layer's merge ends with its arguments unchanged and every counter at zero. -/
theorem merge0_ref_frame : Cert.quiescent_Reference3Ideal := fun m ρ _ =>
  (θ_run _ _ _).mono (fun r h => ⟨fun c => (h c).2, Idealize.ShloMosaic.sem_eq_zero_of_no_sems (by decide) r.2⟩)
    (Cert.Reference3Ideal.Value.run (F := Ideal) m ρ)

/-- The first layer's merge and feed-forward call computes its reference's function. -/
theorem merge0_value : Cert.algebraic_Kernel3Ideal_Reference3Ideal := by
  pair_intro
  · run_from Cert.Kernel3Ideal.Gen.run_main m g
  · run_from Cert.Reference3Ideal.Value.run m' g'
    rw [Cert.Merge0.final m c]
    obtain ⟨h0, h1, h2, h3, h4, h5, h6, h7, h8, h9, h10, -⟩ := hagree c
    refine (Cert.MergeRef.res0_eq m' c).trans ?_
    rw [h0, h1, h2, h3, h4, h5, h6, h7, h8, h9, h10]

/-- The reference of the second layer's attention ends with its arguments unchanged and every counter at zero. -/
theorem second_ref_frame : Cert.quiescent_Reference4Ideal := fun m ρ _ =>
  (θ_run _ _ _).mono (fun r h => ⟨fun c => (h c).2, Idealize.ShloMosaic.sem_eq_zero_of_no_sems (by decide) r.2⟩)
    (Cert.Reference4Ideal.Value.run (F := Ideal) m ρ)

/-- The second layer's attention computes its reference's function of real queries, keys and biases. -/
theorem second_value : Cert.algebraic_Kernel4Ideal_Reference4Ideal_pre_finite_second := by
  pair_intro
  · run_from Cert.Kernel4Ideal.Att.run_main m g
  · run_from Cert.Reference4Ideal.Value.run m' g'
    obtain ⟨hq, hk, hr⟩ := Cert.Kernel4Ideal.Att.pre_real _ _ _ _ (hpre c)
    rw [Cert.Kernel4Ideal.Att.final m c hq hk hr]
    obtain ⟨h0, h1, h2, h3⟩ := hagree c
    exact (Cert.AttRef.second_res_eq m' c).trans
      (congr (congr (congr (congrArg Cert.AttRef.att h0) h1) h2) (congrArg Cert.AttRef.second h3))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_finite_second.Gen.facts,
  Cert.KernelIdeal.Att.frame_kernel, fun m ρ _ => Cert.KernelIdeal.Att.frame m ρ, fun m ρ _ => Cert.KernelIdeal.Att.frame m ρ,
  att_ref_frame, fun m ρ _ => att_ref_frame m ρ trivial,
  fun m ρ _ => Cert.Kernel2.Gen.frame m ρ, fun m ρ _ => Cert.Kernel2Ideal.Gen.frame m ρ, merge_ref_frame,
  fun m ρ _ => Cert.Kernel3.Gen.frame m ρ, fun m ρ _ => Cert.Kernel3Ideal.Gen.frame m ρ, merge0_ref_frame,
  Cert.Kernel4Ideal.Att.frame_kernel, fun m ρ _ => Cert.Kernel4Ideal.Att.frame m ρ, fun m ρ _ => Cert.Kernel4Ideal.Att.frame m ρ,
  second_ref_frame, fun m ρ _ => second_ref_frame m ρ trivial,
  IdealRules.named_const.statement Cert.KernelIdeal.κ "mask" .f32 0xF149F2CA#32 ⊥ rfl, att_value, trivial, merge_value,
  trivial, merge0_value,
  IdealRules.named_const.statement Cert.Kernel4Ideal.κ "mask" .f32 0xF149F2CA#32 ⊥ rfl, second_value⟩

end Cert.Proof

end
